-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S1024x1024 : Shape := ⟨2, ![1024, 1024]⟩
abbrev S256x1024 : Shape := ⟨2, ![256, 1024]⟩
abbrev S4x256x1024 : Shape := ⟨3, ![4, 256, 1024]⟩
abbrev S3x256x256 : Shape := ⟨3, ![3, 256, 256]⟩
abbrev S3 : Shape := ⟨1, ![3]⟩
abbrev S4 : Shape := ⟨1, ![4]⟩
abbrev S2 : Shape := ⟨1, ![2]⟩
abbrev S1 : Shape := ⟨1, ![1]⟩
abbrev S_ : Shape := ⟨0, ![]⟩
abbrev S1x256x1024 : Shape := ⟨3, ![1, 256, 1024]⟩
abbrev S1x256x256 : Shape := ⟨3, ![1, 256, 256]⟩
abbrev S256x256 : Shape := ⟨2, ![256, 256]⟩
abbrev S256x512 : Shape := ⟨2, ![256, 512]⟩

abbrev nBuf : Space → Nat
  | .hbm => 3
  | .vmem => 4
  | .smem => 0
  | _ => 0

abbrev bufTy : (tb : Table) → Fin (tcTables nBuf tb) → BufTy
  | .hbm, ⟨0, _⟩ => ⟨S1024x256, .bf16⟩
  | .hbm, ⟨1, _⟩ => ⟨S1024x1024, .f32⟩
  | .hbm, ⟨2, _⟩ => ⟨S256x1024, .bf16⟩
  | .local _ .vmem, ⟨0, _⟩ => ⟨S1024x256, .bf16⟩
  | .local _ .vmem, ⟨1, _⟩ => ⟨S4x256x1024, .f32⟩
  | .local _ .vmem, ⟨2, _⟩ => ⟨S3x256x256, .bf16⟩
  | .local _ .vmem, ⟨3, _⟩ => ⟨S256x1024, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v3 : BitVec 32 := Scalar.muli v2 c256_i32
  let c0_i32_3 : BitVec 32 := 0#32
  ![v3.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v9 : BitVec 32 := Scalar.subi v2 c1_i32_4
  let c4_i32_5 : BitVec 32 := 4#32
  let c0_i32_6 : BitVec 32 := 0#32
  let v10 : BitVec 1 := Scalar.cmpi .eq c4_i32_5 c0_i32_6
  let c1_i32_7 : BitVec 32 := 1#32
  let v11 : BitVec 32 := Scalar.select v10 c1_i32_7 c4_i32_5
  let v12 : BitVec 32 := Scalar.remsi v9 v11
  let c0_i32_9 : BitVec 32 := 0#32
  let v14 : BitVec 1 := Scalar.cmpi .slt v12 c0_i32_9
  let c0_i32_10 : BitVec 32 := 0#32
  let v15 : BitVec 1 := Scalar.cmpi .slt v11 c0_i32_10
  let v16 : BitVec 1 := Scalar.xori v14 v15
  let c0_i32_8 : BitVec 32 := 0#32
  let v13 : BitVec 1 := Scalar.cmpi .ne v12 c0_i32_8
  let v17 : BitVec 1 := Scalar.andi v16 v13
  let v18 : BitVec 32 := Scalar.addi v12 v11
  let v19 : BitVec 32 := Scalar.select v17 v18 v12
  let c256_i32_11 : BitVec 32 := 256#32
  let v20 : BitVec 32 := Scalar.muli v19 c256_i32_11
  let c0_i32_16 : BitVec 32 := 0#32
  ![v20.toNat, 0]
def k0_off3 (d0 : Dev nD) (c1_i32_17 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : BitVec 32 := Scalar.addi v2 c1_i32_17
  let c4_i32_18 : BitVec 32 := 4#32
  let c0_i32_19 : BitVec 32 := 0#32
  let v27 : BitVec 1 := Scalar.cmpi .eq c4_i32_18 c0_i32_19
  let c1_i32_20 : BitVec 32 := 1#32
  let v28 : BitVec 32 := Scalar.select v27 c1_i32_20 c4_i32_18
  let v29 : BitVec 32 := Scalar.remsi v26 v28
  let c0_i32_22 : BitVec 32 := 0#32
  let v31 : BitVec 1 := Scalar.cmpi .slt v29 c0_i32_22
  let c0_i32_23 : BitVec 32 := 0#32
  let v32 : BitVec 1 := Scalar.cmpi .slt v28 c0_i32_23
  let v33 : BitVec 1 := Scalar.xori v31 v32
  let c0_i32_21 : BitVec 32 := 0#32
  let v30 : BitVec 1 := Scalar.cmpi .ne v29 c0_i32_21
  let v34 : BitVec 1 := Scalar.andi v33 v30
  let v35 : BitVec 32 := Scalar.addi v29 v28
  let v36 : BitVec 32 := Scalar.select v34 v35 v29
  let c256_i32_24 : BitVec 32 := 256#32
  let v37 : BitVec 32 := Scalar.muli v36 c256_i32_24
  let c0_i32_28 : BitVec 32 := 0#32
  ![v37.toNat, 0]
def k0_dev1 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_41 : BitVec 32 := 1#32
  let v61 : BitVec 32 := Scalar.addi v2 c1_i32_41
  let c4_i32_42 : BitVec 32 := 4#32
  let c0_i32_43 : BitVec 32 := 0#32
  let v62 : BitVec 1 := Scalar.cmpi .eq c4_i32_42 c0_i32_43
  let c1_i32_44 : BitVec 32 := 1#32
  let v63 : BitVec 32 := Scalar.select v62 c1_i32_44 c4_i32_42
  let v64 : BitVec 32 := Scalar.remsi v61 v63
  let c0_i32_46 : BitVec 32 := 0#32
  let v66 : BitVec 1 := Scalar.cmpi .slt v64 c0_i32_46
  let c0_i32_47 : BitVec 32 := 0#32
  let v67 : BitVec 1 := Scalar.cmpi .slt v63 c0_i32_47
  let v68 : BitVec 1 := Scalar.xori v66 v67
  let c0_i32_45 : BitVec 32 := 0#32
  let v65 : BitVec 1 := Scalar.cmpi .ne v64 c0_i32_45
  let v69 : BitVec 1 := Scalar.andi v68 v65
  let v70 : BitVec 32 := Scalar.addi v64 v63
  let v71 : BitVec 32 := Scalar.select v69 v70 v64
  let c1_i32_49 : BitVec 32 := 1#32
  let v72 : BitVec 32 := Scalar.muli v71 c1_i32_49
  let v73 : BitVec 32 := Scalar.addi c0_i32_50 v72
  v73.toNat
def k0_dev2 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_51 : BitVec 32 := 2#32
  let v74 : BitVec 32 := Scalar.addi v2 c2_i32_51
  let c4_i32_52 : BitVec 32 := 4#32
  let c0_i32_53 : BitVec 32 := 0#32
  let v75 : BitVec 1 := Scalar.cmpi .eq c4_i32_52 c0_i32_53
  let c1_i32_54 : BitVec 32 := 1#32
  let v76 : BitVec 32 := Scalar.select v75 c1_i32_54 c4_i32_52
  let v77 : BitVec 32 := Scalar.remsi v74 v76
  let c0_i32_56 : BitVec 32 := 0#32
  let v79 : BitVec 1 := Scalar.cmpi .slt v77 c0_i32_56
  let c0_i32_57 : BitVec 32 := 0#32
  let v80 : BitVec 1 := Scalar.cmpi .slt v76 c0_i32_57
  let v81 : BitVec 1 := Scalar.xori v79 v80
  let c0_i32_55 : BitVec 32 := 0#32
  let v78 : BitVec 1 := Scalar.cmpi .ne v77 c0_i32_55
  let v82 : BitVec 1 := Scalar.andi v81 v78
  let v83 : BitVec 32 := Scalar.addi v77 v76
  let v84 : BitVec 32 := Scalar.select v82 v83 v77
  let c1_i32_59 : BitVec 32 := 1#32
  let v85 : BitVec 32 := Scalar.muli v84 c1_i32_59
  let v86 : BitVec 32 := Scalar.addi c0_i32_60 v85
  v86.toNat
def k0_dev3 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_61 : BitVec 32 := 3#32
  let v87 : BitVec 32 := Scalar.addi v2 c3_i32_61
  let c4_i32_62 : BitVec 32 := 4#32
  let c0_i32_63 : BitVec 32 := 0#32
  let v88 : BitVec 1 := Scalar.cmpi .eq c4_i32_62 c0_i32_63
  let c1_i32_64 : BitVec 32 := 1#32
  let v89 : BitVec 32 := Scalar.select v88 c1_i32_64 c4_i32_62
  let v90 : BitVec 32 := Scalar.remsi v87 v89
  let c0_i32_66 : BitVec 32 := 0#32
  let v92 : BitVec 1 := Scalar.cmpi .slt v90 c0_i32_66
  let c0_i32_67 : BitVec 32 := 0#32
  let v93 : BitVec 1 := Scalar.cmpi .slt v89 c0_i32_67
  let v94 : BitVec 1 := Scalar.xori v92 v93
  let c0_i32_65 : BitVec 32 := 0#32
  let v91 : BitVec 1 := Scalar.cmpi .ne v90 c0_i32_65
  let v95 : BitVec 1 := Scalar.andi v94 v91
  let v96 : BitVec 32 := Scalar.addi v90 v89
  let v97 : BitVec 32 := Scalar.select v95 v96 v90
  let c1_i32_69 : BitVec 32 := 1#32
  let v98 : BitVec 32 := Scalar.muli v97 c1_i32_69
  let v99 : BitVec 32 := Scalar.addi c0_i32_70 v98
  v99.toNat
def k0_off4 (d0 : Dev nD) (c1_i32_72 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v100 : BitVec 32 := Scalar.addi v2 c1_i32_72
  let c4_i32_73 : BitVec 32 := 4#32
  let c0_i32_74 : BitVec 32 := 0#32
  let v101 : BitVec 1 := Scalar.cmpi .eq c4_i32_73 c0_i32_74
  let c1_i32_75 : BitVec 32 := 1#32
  let v102 : BitVec 32 := Scalar.select v101 c1_i32_75 c4_i32_73
  let v103 : BitVec 32 := Scalar.remsi v100 v102
  let c0_i32_77 : BitVec 32 := 0#32
  let v105 : BitVec 1 := Scalar.cmpi .slt v103 c0_i32_77
  let c0_i32_78 : BitVec 32 := 0#32
  let v106 : BitVec 1 := Scalar.cmpi .slt v102 c0_i32_78
  let v107 : BitVec 1 := Scalar.xori v105 v106
  let c0_i32_76 : BitVec 32 := 0#32
  let v104 : BitVec 1 := Scalar.cmpi .ne v103 c0_i32_76
  let v108 : BitVec 1 := Scalar.andi v107 v104
  let v109 : BitVec 32 := Scalar.addi v103 v102
  let v110 : BitVec 32 := Scalar.select v108 v109 v103
  let c256_i32_79 : BitVec 32 := 256#32
  let v111 : BitVec 32 := Scalar.muli v110 c256_i32_79
  let c0_i32_87 : BitVec 32 := 0#32
  ![v111.toNat, 0]
def k0_dev4 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_72 : BitVec 32 := 1#32
  let v100 : BitVec 32 := Scalar.addi v2 c1_i32_72
  let c4_i32_73 : BitVec 32 := 4#32
  let c0_i32_74 : BitVec 32 := 0#32
  let v101 : BitVec 1 := Scalar.cmpi .eq c4_i32_73 c0_i32_74
  let c1_i32_75 : BitVec 32 := 1#32
  let v102 : BitVec 32 := Scalar.select v101 c1_i32_75 c4_i32_73
  let v103 : BitVec 32 := Scalar.remsi v100 v102
  let c0_i32_77 : BitVec 32 := 0#32
  let v105 : BitVec 1 := Scalar.cmpi .slt v103 c0_i32_77
  let c0_i32_78 : BitVec 32 := 0#32
  let v106 : BitVec 1 := Scalar.cmpi .slt v102 c0_i32_78
  let v107 : BitVec 1 := Scalar.xori v105 v106
  let c0_i32_76 : BitVec 32 := 0#32
  let v104 : BitVec 1 := Scalar.cmpi .ne v103 c0_i32_76
  let v108 : BitVec 1 := Scalar.andi v107 v104
  let v109 : BitVec 32 := Scalar.addi v103 v102
  let v110 : BitVec 32 := Scalar.select v108 v109 v103
  let c1_i32_83 : BitVec 32 := 1#32
  let v112 : BitVec 32 := Scalar.muli v110 c1_i32_83
  let v113 : BitVec 32 := Scalar.addi c0_i32_84 v112
  v113.toNat
def k0_dev5 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_88 : BitVec 32 := 2#32
  let v121 : BitVec 32 := Scalar.addi v2 c2_i32_88
  let c4_i32_89 : BitVec 32 := 4#32
  let c0_i32_90 : BitVec 32 := 0#32
  let v122 : BitVec 1 := Scalar.cmpi .eq c4_i32_89 c0_i32_90
  let c1_i32_91 : BitVec 32 := 1#32
  let v123 : BitVec 32 := Scalar.select v122 c1_i32_91 c4_i32_89
  let v124 : BitVec 32 := Scalar.remsi v121 v123
  let c0_i32_93 : BitVec 32 := 0#32
  let v126 : BitVec 1 := Scalar.cmpi .slt v124 c0_i32_93
  let c0_i32_94 : BitVec 32 := 0#32
  let v127 : BitVec 1 := Scalar.cmpi .slt v123 c0_i32_94
  let v128 : BitVec 1 := Scalar.xori v126 v127
  let c0_i32_92 : BitVec 32 := 0#32
  let v125 : BitVec 1 := Scalar.cmpi .ne v124 c0_i32_92
  let v129 : BitVec 1 := Scalar.andi v128 v125
  let v130 : BitVec 32 := Scalar.addi v124 v123
  let v131 : BitVec 32 := Scalar.select v129 v130 v124
  let c1_i32_99 : BitVec 32 := 1#32
  let v133 : BitVec 32 := Scalar.muli v131 c1_i32_99
  let v134 : BitVec 32 := Scalar.addi c0_i32_100 v133
  v134.toNat
def k0_dev6 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_104 : BitVec 32 := 3#32
  let v142 : BitVec 32 := Scalar.addi v2 c3_i32_104
  let c4_i32_105 : BitVec 32 := 4#32
  let c0_i32_106 : BitVec 32 := 0#32
  let v143 : BitVec 1 := Scalar.cmpi .eq c4_i32_105 c0_i32_106
  let c1_i32_107 : BitVec 32 := 1#32
  let v144 : BitVec 32 := Scalar.select v143 c1_i32_107 c4_i32_105
  let v145 : BitVec 32 := Scalar.remsi v142 v144
  let c0_i32_109 : BitVec 32 := 0#32
  let v147 : BitVec 1 := Scalar.cmpi .slt v145 c0_i32_109
  let c0_i32_110 : BitVec 32 := 0#32
  let v148 : BitVec 1 := Scalar.cmpi .slt v144 c0_i32_110
  let v149 : BitVec 1 := Scalar.xori v147 v148
  let c0_i32_108 : BitVec 32 := 0#32
  let v146 : BitVec 1 := Scalar.cmpi .ne v145 c0_i32_108
  let v150 : BitVec 1 := Scalar.andi v149 v146
  let v151 : BitVec 32 := Scalar.addi v145 v144
  let v152 : BitVec 32 := Scalar.select v150 v151 v145
  let c1_i32_115 : BitVec 32 := 1#32
  let v154 : BitVec 32 := Scalar.muli v152 c1_i32_115
  let v155 : BitVec 32 := Scalar.addi c0_i32_116 v154
  v155.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_125 : BitVec 32 := 256#32
  let v168 : BitVec 32 := Scalar.muli v2 c256_i32_125
  let v169 : Index := Scalar.indexCast v168
  let c0 : Index := 0#32
  ![v169.toNat, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Pieces.lean ====
/-
# The buffers cut into the pieces the kernel's copies move

Each device works on six buffers: its staged copy of `x` (1024 x 256), the weight array in HBM (1024 x 1024), four
weight slots, three landing slots for the other devices' blocks, the output tile in VMEM and the output in HBM.
Several copies are in flight at once, so each buffer is held piece by piece: `x` and the weights by blocks of 256
rows, the two scratch buffers by slots, the two output buffers by column halves. This module names the pieces as the
printed program spells them, and shows that the pieces of one buffer are disjoint and cover it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen
open Idealize.ShloMosaic
open Idealize.ShloMosaic.TcCoe
open Idealize.SL.Sem

/-! ## Neighbours

`ahead c s` is the device `s + 1` places after `c`: the one device `c` sends its copy number `s` to. -/

set_option backward.proofsInPublic true in
def ahead (c : Dev nD) (s : Fin 3) : Dev nD := ⟨(c.val + s.val + 1) % 4, Nat.mod_lt _ (by decide)⟩

theorem ahead_rev (c : Dev nD) (s : Fin 3) : ahead (ahead c s) s.rev = c := by revert c s; decide
theorem ahead_rev' (c : Dev nD) (s : Fin 3) : ahead (ahead c s.rev) s = c := by revert c s; decide
theorem ahead_inj (s : Fin 3) {c d : Dev nD} (h : ahead c s = ahead d s) : c = d := by
  rw [← ahead_rev c s, h, ahead_rev]

/-- Going `s + 1` places around the mesh, as a permutation of the devices. -/
def turn (s : Fin 3) : Dev nD ≃ Dev nD := ⟨fun c => ahead c s, fun c => ahead c s.rev, fun c => ahead_rev c s, fun c => ahead_rev' c s⟩

/-- A device and the three ahead of it are all four. -/
def round (c : Dev nD) : Fin 4 ≃ Dev nD where
  toFun k := ⟨(c.val + k.val) % 4, Nat.mod_lt _ (by decide)⟩
  invFun d := ⟨(d.val + 4 - c.val) % 4, Nat.mod_lt _ (by decide)⟩
  left_inv k := by revert c k; decide
  right_inv d := by revert c d; decide

theorem dev1_eq (c : Dev nD) : (⟨k0_dev1 c, k0_dev1_lt c⟩ : Dev nD) = ahead c 0 := by revert c; decide +kernel
theorem dev2_eq (c : Dev nD) : (⟨k0_dev2 c, k0_dev2_lt c⟩ : Dev nD) = ahead c 1 := by revert c; decide +kernel
theorem dev3_eq (c : Dev nD) : (⟨k0_dev3 c, k0_dev3_lt c⟩ : Dev nD) = ahead c 2 := by revert c; decide +kernel
theorem dev4_eq (c : Dev nD) : (⟨k0_dev4 c, k0_dev4_lt c⟩ : Dev nD) = ahead c 0 := by revert c; decide +kernel
theorem dev5_eq (c : Dev nD) : (⟨k0_dev5 c, k0_dev5_lt c⟩ : Dev nD) = ahead c 1 := by revert c; decide +kernel
theorem dev6_eq (c : Dev nD) : (⟨k0_dev6 c, k0_dev6_lt c⟩ : Dev nD) = ahead c 2 := by revert c; decide +kernel

/-! ## Whole buffers -/

abbrev xM : Memref sig .tc .vmem S1024x256 .bf16 := Memref.whole cc0_stg0_0
abbrev wM : Memref sig .tc .hbm S1024x1024 .f32 := Memref.whole main_arg1
abbrev oM : Memref sig .tc .hbm S256x1024 .bf16 := Memref.whole main_v1
abbrev wvM : Memref sig .tc .vmem S4x256x1024 .f32 := Memref.whole cc0_scratch0
abbrev cmM : Memref sig .tc .vmem S3x256x256 .bf16 := Memref.whole cc0_scratch1
abbrev yvM : Memref sig .tc .vmem S256x1024 .bf16 := Memref.whole cc0_scratch2

/-! ## Pieces -/

/-- Where the rows of `x` that device `c` sends in its copy number `s` start. -/
abbrev xOff (c : Dev nD) (s : Fin 3) : Fin 2 → Nat := k0_off4 c (BitVec.ofNat 32 (1 + s.val))
/-- The rows of `x` that device `c` sends in its copy number `s`; -/
abbrev xSrc (c : Dev nD) (s : Fin 3) : Memref sig .tc .vmem S256x256 .bf16 :=
  xM.slice (Rect.unit (s := S1024x256) (xOff c s) S256x256.size (k0_off4_inb c s)) (fun _ => rfl)
/-- and the rows it keeps. -/
abbrev xOwnR (c : Dev nD) : Rect S1024x256 := Rect.unit (s := S1024x256) (k0_off5 c) S256x256.size (k0_off5_inb c)
abbrev xOwn (c : Dev nD) : Memref sig .tc .vmem S256x256 .bf16 := xM.slice (xOwnR c) (fun _ => rfl)

theorem xOff_eq (c : Dev nD) (s : Fin 3) : xOff c s = ![256 * (ahead c s).val, 0] := by revert c s; decide +kernel

/-- Where the weight rows fetched into slot `k` start: those of the device itself, of the one before it, of the one
    after it, of the one across. -/
def wOff (c : Dev nD) : Fin 4 → Fin 2 → Nat
  | 0 => k0_off1 c
  | 1 => k0_off2 c
  | 2 => k0_off3 c (BitVec.ofNat 32 (1 + (0 : Fin 2).val))
  | 3 => k0_off3 c (BitVec.ofNat 32 (1 + (1 : Fin 2).val))
theorem wOff_inb (c : Dev nD) : ∀ k : Fin 4, ∀ a, wOff c k a + S256x1024.size a ≤ S1024x1024.size a
  | 0 => k0_off1_inb c
  | 1 => k0_off2_inb c
  | 2 => k0_off3_inb c 0
  | 3 => k0_off3_inb c 1
/-- Whose rows those are. -/
def wFrom (c : Dev nD) : Fin 4 → Dev nD
  | 0 => c
  | 1 => ahead c 2
  | 2 => ahead c 0
  | 3 => ahead c 1
theorem wOff_eq (c : Dev nD) (k : Fin 4) : wOff c k = ![256 * (wFrom c k).val, 0] := by revert c k; decide +kernel
theorem wFrom_bij (c : Dev nD) : Function.Bijective (wFrom c) := by revert c; decide +kernel

abbrev wSrc (c : Dev nD) (k : Fin 4) : Memref sig .tc .hbm S256x1024 .f32 :=
  wM.slice (Rect.unit (s := S1024x1024) (wOff c k) S256x1024.size (wOff_inb c k)) (fun _ => rfl)

theorem wvR_inb (k : Fin 4) : ∀ a, (![k.val, 0, 0] : Fin 3 → Nat) a + S1x256x1024.size a ≤ S4x256x1024.size a := by revert k; decide
/-- Weight slot `k`. -/
abbrev wvR (k : Fin 4) : Rect S4x256x1024 := Rect.unit (s := S4x256x1024) ![k.val, 0, 0] S1x256x1024.size (wvR_inb k)
abbrev wvS (k : Fin 4) : Memref sig .tc .vmem S256x1024 .f32 :=
  (wvM.slice (wvR k) (fun _ => rfl) : Memref sig .tc .vmem S1x256x1024 .f32).squeeze S256x1024 squeezes_S1x256x1024_S256x1024

theorem cmR_inb (s : Fin 3) : ∀ a, (![s.val, 0, 0] : Fin 3 → Nat) a + S1x256x256.size a ≤ S3x256x256.size a := by revert s; decide
/-- Landing slot `s`. -/
abbrev cmR (s : Fin 3) : Rect S3x256x256 := Rect.unit (s := S3x256x256) ![s.val, 0, 0] S1x256x256.size (cmR_inb s)
abbrev cmS (s : Fin 3) : Memref sig .tc .vmem S256x256 .bf16 :=
  (cmM.slice (cmR s) (fun _ => rfl) : Memref sig .tc .vmem S1x256x256 .bf16).squeeze S256x256 squeezes_S1x256x256_S256x256

theorem hR_inb (h : Fin 2) : ∀ a, (![0, 512 * h.val] : Fin 2 → Nat) a + S256x512.size a ≤ S256x1024.size a := by revert h; decide
/-- Column half `h` of the output tile. -/
abbrev hR (h : Fin 2) : Rect S256x1024 := Rect.unit (s := S256x1024) ![0, 512 * h.val] S256x512.size (hR_inb h)
abbrev yH (h : Fin 2) : Memref sig .tc .vmem S256x512 .bf16 := yvM.slice (hR h) (fun _ => rfl)
abbrev oH (h : Fin 2) : Memref sig .tc .hbm S256x512 .bf16 := oM.slice (hR h) (fun _ => rfl)

/-! ## Semaphores -/

theorem s3_inb (s : Fin 3) : ∀ a, (![s.val] : Fin 1 → Nat) a + S1.size a ≤ S3.size a := by revert s; decide
theorem s4_inb (s : Fin 4) : ∀ a, (![s.val] : Fin 1 → Nat) a + S1.size a ≤ S4.size a := by revert s; decide
theorem s2_inb (s : Fin 2) : ∀ a, (![s.val] : Fin 1 → Nat) a + S1.size a ≤ S2.size a := by revert s; decide
/-- The runtime's barrier semaphore. -/
abbrev barS : Sem sig := (SemArray.scalar (sig.barrier 0 rfl) : Sems sig S_).sem
abbrev sndS (s : Fin 3) : DmaSem sig :=
  ((cc0_scratch3.slice (Rect.unit (s := S3) ![s.val] S1.size (s3_inb s)) : DmaSems sig S1).squeeze S_ squeezes_S1_S_).sem
abbrev rcvS (s : Fin 3) : DmaSem sig :=
  ((cc0_scratch4.slice (Rect.unit (s := S3) ![s.val] S1.size (s3_inb s)) : DmaSems sig S1).squeeze S_ squeezes_S1_S_).sem
abbrev wS (k : Fin 4) : DmaSem sig :=
  ((cc0_scratch5.slice (Rect.unit (s := S4) ![k.val] S1.size (s4_inb k)) : DmaSems sig S1).squeeze S_ squeezes_S1_S_).sem
abbrev oS (h : Fin 2) : DmaSem sig :=
  ((cc0_scratch6.slice (Rect.unit (s := S2) ![h.val] S1.size (s2_inb h)) : DmaSems sig S1).squeeze S_ squeezes_S1_S_).sem

/-! ## The pieces of one buffer are disjoint and cover it -/

section Cover
variable {n : Nat} {S : Shape} {B : Type} [Fintype B]

/-- Unit-stride rectangles that differ along one axis only, where they are consecutive stretches of `w`, are disjoint. -/
theorem blocks_disjoint {s : Shape} (a : Fin s.rank) (w : Nat) (idx : B → Nat) (hidx : Function.Injective idx)
    {off : B → Fin s.rank → Nat} {size : Fin s.rank → Nat} {inb : ∀ b i, off b i + size i ≤ s.size i}
    (ho : ∀ b, off b a = w * idx b) (hs : size a = w) (b b' : B) (h : b ≠ b') :
    Disjoint (Rect.unit (s := s) (off b) size (inb b)).set (Rect.unit (s := s) (off b') size (inb b')).set := by
  have hne : idx b ≠ idx b' := fun e => h (hidx e)
  refine Rect.unit_disjoint a ?_
  rw [ho, ho, hs]
  rcases Nat.lt_or_gt_of_ne hne with hl | hl
  · left; rw [← Nat.mul_succ]; exact Nat.mul_le_mul_left _ hl
  · right; rw [← Nat.mul_succ]; exact Nat.mul_le_mul_left _ hl

/-- And if the stretches fill that axis and the rectangles are full along the others, they cover the shape. -/
theorem blocks_cover {s : Shape} (a : Fin s.rank) (w : Nat) (hw : 0 < w) (idx : B → Nat)
    {off : B → Fin s.rank → Nat} {size : Fin s.rank → Nat} {inb : ∀ b i, off b i + size i ≤ s.size i}
    (ho : ∀ b, off b a = w * idx b) (hs : size a = w) (hsurj : ∀ k, k < s.size a / w → ∃ b, idx b = k) (hdvd : w ∣ s.size a)
    (hfull : ∀ b i, i ≠ a → off b i = 0 ∧ size i = s.size i) :
    (Finset.univ.biUnion fun b => (Rect.unit (s := s) (off b) size (inb b)).set) = Finset.univ := by
  ext i
  simp only [Finset.mem_biUnion, Finset.mem_univ, true_and, iff_true]
  obtain ⟨b, hb⟩ := hsurj ((i a).val / w) (Nat.div_lt_div_of_lt_of_dvd hdvd (i a).isLt)
  refine ⟨b, Rect.mem_set_unit.mpr fun j => ?_⟩
  by_cases hj : j = a
  · subst hj
    rw [ho, hs, hb]
    have h1 := Nat.div_mul_le_self (i j).val w
    have h2 := Nat.lt_div_mul_add hw (a := (i j).val)
    rw [Nat.mul_comm] at h1
    refine ⟨h1, ?_⟩
    rw [Nat.mul_comm w]; exact h2
  · obtain ⟨h0, h1⟩ := hfull b j hj
    rw [h0, h1]; exact ⟨Nat.zero_le _, by rw [Nat.zero_add]; exact (i j).isLt⟩

end Cover

/-- The rows of `x` cut up: the device's own, then the ones it sends. -/
def xBeg (c : Dev nD) : Fin 4 → Fin 2 → Nat
  | 0 => k0_off5 c
  | 1 => xOff c 0
  | 2 => xOff c 1
  | 3 => xOff c 2
theorem xBeg_inb (c : Dev nD) : ∀ k : Fin 4, ∀ a, xBeg c k a + S256x256.size a ≤ S1024x256.size a
  | 0 => k0_off5_inb c
  | 1 => k0_off4_inb c 0
  | 2 => k0_off4_inb c 1
  | 3 => k0_off4_inb c 2
theorem xBeg_eq (c : Dev nD) (k : Fin 4) : xBeg c k = ![256 * (round c k).val, 0] := by revert c k; decide +kernel
abbrev xRect (c : Dev nD) (k : Fin 4) : Rect S1024x256 := Rect.unit (s := S1024x256) (xBeg c k) S256x256.size (xBeg_inb c k)

theorem xRect_disjoint (c : Dev nD) (k k' : Fin 4) (h : k ≠ k') : Disjoint (xRect c k).set (xRect c k').set :=
  blocks_disjoint (s := S1024x256) 0 256 (fun k => (round c k).val)
    (fun a b e => (round c).injective (Fin.ext e)) (off := fun k => xBeg c k) (fun k => by rw [xBeg_eq]; rfl) rfl k k' h

theorem xRect_cover (c : Dev nD) : (Finset.univ.biUnion fun k => (xRect c k).set) = Finset.univ := by
  refine blocks_cover (s := S1024x256) 0 256 (by decide) (fun k => (round c k).val)
    (off := fun k => xBeg c k) (fun k => by rw [xBeg_eq]; rfl) rfl (fun k hk => ?_) (by decide) (fun b i hi => ?_)
  · exact ⟨(round c).symm ⟨k, hk⟩, by rw [Equiv.apply_symm_apply]⟩
  · fin_cases i
    · exact absurd rfl hi
    · exact ⟨by rw [xBeg_eq]; rfl, rfl⟩

/-- The rows of the weights, cut up as they are fetched. -/
abbrev wRect (c : Dev nD) (k : Fin 4) : Rect S1024x1024 := Rect.unit (s := S1024x1024) (wOff c k) S256x1024.size (wOff_inb c k)

theorem wRect_disjoint (c : Dev nD) (k k' : Fin 4) (h : k ≠ k') : Disjoint (wRect c k).set (wRect c k').set :=
  blocks_disjoint (s := S1024x1024) 0 256 (fun k => (wFrom c k).val)
    (fun a b e => (wFrom_bij c).1 (Fin.ext e)) (off := fun k => wOff c k) (fun k => by rw [wOff_eq]; rfl) rfl k k' h

theorem wRect_cover (c : Dev nD) : (Finset.univ.biUnion fun k => (wRect c k).set) = Finset.univ := by
  refine blocks_cover (s := S1024x1024) 0 256 (by decide) (fun k => (wFrom c k).val)
    (off := fun k => wOff c k) (fun k => by rw [wOff_eq]; rfl) rfl (fun k hk => ?_) (by decide) (fun b i hi => ?_)
  · obtain ⟨b, hb⟩ := (wFrom_bij c).2 ⟨k, hk⟩
    exact ⟨b, by rw [hb]⟩
  · fin_cases i
    · exact absurd rfl hi
    · exact ⟨by rw [wOff_eq]; rfl, rfl⟩

theorem wvR_disjoint (k k' : Fin 4) (h : k ≠ k') : Disjoint (wvR k).set (wvR k').set :=
  blocks_disjoint (s := S4x256x1024) 0 1 (fun k : Fin 4 => k.val) Fin.val_injective
    (off := fun k => ![k.val, 0, 0]) (fun k => (Nat.one_mul _).symm) rfl k k' h

theorem wvR_cover : (Finset.univ.biUnion fun k => (wvR k).set) = Finset.univ :=
  blocks_cover (s := S4x256x1024) 0 1 (by decide) (fun k : Fin 4 => k.val)
    (off := fun k => ![k.val, 0, 0]) (fun k => (Nat.one_mul _).symm) rfl (fun k hk => ⟨⟨k, hk⟩, rfl⟩) (by decide)
    (fun b i hi => by fin_cases i; exacts [absurd rfl hi, ⟨rfl, rfl⟩, ⟨rfl, rfl⟩])

theorem cmR_disjoint (k k' : Fin 3) (h : k ≠ k') : Disjoint (cmR k).set (cmR k').set :=
  blocks_disjoint (s := S3x256x256) 0 1 (fun k : Fin 3 => k.val) Fin.val_injective
    (off := fun k => ![k.val, 0, 0]) (fun k => (Nat.one_mul _).symm) rfl k k' h

theorem cmR_cover : (Finset.univ.biUnion fun k => (cmR k).set) = Finset.univ :=
  blocks_cover (s := S3x256x256) 0 1 (by decide) (fun k : Fin 3 => k.val)
    (off := fun k => ![k.val, 0, 0]) (fun k => (Nat.one_mul _).symm) rfl (fun k hk => ⟨⟨k, hk⟩, rfl⟩) (by decide)
    (fun b i hi => by fin_cases i; exacts [absurd rfl hi, ⟨rfl, rfl⟩, ⟨rfl, rfl⟩])

theorem hR_disjoint (k k' : Fin 2) (h : k ≠ k') : Disjoint (hR k).set (hR k').set :=
  blocks_disjoint (s := S256x1024) 1 512 (fun k : Fin 2 => k.val) Fin.val_injective
    (off := fun k => ![0, 512 * k.val]) (fun k => rfl) rfl k k' h

theorem hR_cover : (Finset.univ.biUnion fun k => (hR k).set) = Finset.univ :=
  blocks_cover (s := S256x1024) 1 512 (by decide) (fun k : Fin 2 => k.val)
    (off := fun k => ![0, 512 * k.val]) (fun k => rfl) rfl (fun k hk => ⟨⟨k, hk⟩, rfl⟩) (by decide)
    (fun b i hi => by fin_cases i; exacts [⟨rfl, rfl⟩, absurd rfl hi])

theorem xSrc_set (c : Dev nD) (s : Fin 3) : (xSrc c s).view.set = (xRect c s.succ).set := by
  have h : (xSrc c s).view.set = (Rect.unit (s := S1024x256) (xOff c s) S256x256.size (k0_off4_inb c s)).set :=
    View.set_slice_whole _ _
  rw [h]; fin_cases s <;> rfl
theorem xOwn_set (c : Dev nD) : (xOwn c).view.set = (xRect c 0).set := View.set_slice_whole _ _
theorem wSrc_set (c : Dev nD) (k : Fin 4) : (wSrc c k).view.set = (wRect c k).set := View.set_slice_whole _ _
theorem wvS_set (k : Fin 4) : (wvS k).view.set = (wvR k).set := (View.set_reshape _ _).trans (View.set_slice_whole _ _)
theorem cmS_set (s : Fin 3) : (cmS s).view.set = (cmR s).set := (View.set_reshape _ _).trans (View.set_slice_whole _ _)
theorem yH_set (h : Fin 2) : (yH h).view.set = (hR h).set := View.set_slice_whole _ _
theorem oH_set (h : Fin 2) : (oH h).view.set = (hR h).set := View.set_slice_whole _ _

/-! ## The credit of one block copy, whichever end it is counted at -/

/-- What a copy of one 256 x 256 block of `x` credits its semaphores. -/
abbrev blkN : Nat := (cmS 0).view.dmaCredit
theorem cmS_credit (s : Fin 3) : (cmS s).view.dmaCredit = blkN := rfl
theorem xSrc_credit (c : Dev nD) (s : Fin 3) : (xSrc c s).view.dmaCredit = blkN := rfl
theorem blkN_pos : 0 < blkN := View.dmaCredit_pos _ (by decide)

end Cert.Exchange

end
-- ==== Proof.Protocol.lean ====
/-
# What the devices promise each other

The devices meet at the runtime's barrier semaphore: each signals the three others and waits for three units. A
device's signal to another hands over the landing slot that other device will write, so a remote copy is issued only
to a slot its owner has given away. Each remote copy pays two cells: the sender's send cell, which gives the rows of
`x` back, and the receiver's receive cell, which gives the landing slot back holding the sender's rows. Every cell
has one round. This module states that schedule, what each device owes at launch, and the levels that order the waits.
-/
module

public import proofs.«01_k».proof.Proof.Pieces

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's, the exchange's rounds, and the counters of the local copies. -/
abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER (F := F)).LandsIn (upEmb : UEmb _ 𝕄) := by unfold ER; infer_instance

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## Contents -/

/-- The device's columns of `x`, as its body finds them staged. -/
def xstg (c : Dev nD) : (cc0_stg0_0 : Ref sig .tc).ty.Contents (Elt F) :=
  (win0_0.blk (0 : Fin 1)).view.read (Elt F) ((s₀ m ρ).mem ((c : Thread nD τ).loc main_arg0))

/-- The rows device `c` sends in its copy number `s`. -/
def sent (c : Dev nD) (s : Fin 3) : S256x256.Idx → Elt F .bf16 := (xSrc c s).view.read (Elt F) (xstg m ρ c)
/-- The weight rows device `c` fetches into slot `k`. -/
def wgot (c : Dev nD) (k : Fin 4) : S256x1024.Idx → Elt F .f32 := (wSrc c k).view.read (Elt F) (m ((c : Thread nD τ).loc main_arg1))

/-! ## Cells -/

/-- A device's cells of the exchange: the barrier, three send cells (`false`), three receive cells (`true`). -/
abbrev CK : Type := Option (Bool × Fin 3)

abbrev csem : CK → SemLoc sig
  | none => .reg barS
  | some (false, s) => .dma (sndS s)
  | some (true, s) => .dma (rcvS s)

def allCK : List CK := [none, some (false, 0), some (false, 1), some (false, 2), some (true, 0), some (true, 1), some (true, 2)]
theorem allCK_nodup : allCK.Nodup := by decide
theorem allCK_univ : (Finset.univ : Finset CK) = allCK.toFinset := by decide

/-- Which cell of the exchange a semaphore is, if any. -/
def kind (l : SemLoc sig) : Option CK := allCK.find? fun k => csem k = l

theorem kind_csem (k : CK) : kind (csem k) = some k := by revert k; decide
theorem csem_inj : Function.Injective csem := fun a b h => by
  have := congrArg kind h
  rw [kind_csem, kind_csem] at this
  exact Option.some.inj this

abbrev cell (c : Dev nD) (k : CK) : GSem nD τ sig := ((c : Thread nD τ), csem k)
theorem cell_inj {c d : Dev nD} {k l : CK} (h : cell c k = cell d l) : c = d ∧ k = l :=
  ⟨congrArg (fun g : GSem nD τ sig => g.1.1) h, csem_inj (congrArg (fun g : GSem nD τ sig => g.2) h)⟩

abbrev barCell (c : Dev nD) : GSem nD τ sig := cell c none
abbrev sndCell (c : Dev nD) (s : Fin 3) : GSem nD τ sig := cell c (some (false, s))
abbrev rcvCell (c : Dev nD) (s : Fin 3) : GSem nD τ sig := cell c (some (true, s))

/-! ## Payloads -/

/-- A view's elements on a device, held at contents `f`. -/
abbrev held {sp : Space} {S : Shape} {e : EltTy} (M : Memref sig .tc sp S e) (c : Dev nD) (f : Buf (Elt F) (M.view.loc (c : Thread nD τ))) : sProp 𝕄 :=
  M.view.loc (c : Thread nD τ) ↦[M.view.set]{fullShare} f

/-- A view's elements on a device, held at contents the view reads as `v`. -/
abbrev holds {sp : Space} {S : Shape} {e : EltTy} (M : Memref sig .tc sp S e) (c : Dev nD) (v : S.Idx → Elt F e) : sProp 𝕄 :=
  iprop(∃ f : Buf (Elt F) (M.view.loc (c : Thread nD τ)), ⌜M.view.read (Elt F) f = v⌝ ∗ held M c f)

/-- What the signal to device `c`'s barrier from `ahead c s` hands over: that device's landing slot `s`, whose receive cell is open. -/
def barPay (c : Dev nD) (s : Fin 3) : sProp 𝕄 := iprop((∃ f, held (cmS s) (ahead c s) f) ∗ reached ER (rcvCell (ahead c s) s) 0)
def sndPay (c : Dev nD) (s : Fin 3) : sProp 𝕄 := held (xSrc c s) c (xstg m ρ c)
def rcvPay (c : Dev nD) (s : Fin 3) : sProp 𝕄 := holds (cmS s) c (sent m ρ (ahead c s.rev) s)

omit [FloatOps F] in
instance barPay_storable (c : Dev nD) (s : Fin 3) : BI.Storable (upEmb : UEmb _ 𝕄) (barPay (F := F) c s) := by unfold barPay; infer_instance
omit [FloatOps F] in
instance sndPay_storable (c : Dev nD) (s : Fin 3) : BI.Storable (upEmb : UEmb _ 𝕄) (sndPay m ρ c s) := by unfold sndPay; infer_instance
omit [FloatOps F] in
instance rcvPay_storable (c : Dev nD) (s : Fin 3) : BI.Storable (upEmb : UEmb _ 𝕄) (rcvPay m ρ c s) := by unfold rcvPay; infer_instance

/-! ## The schedule -/

def kindDuties : Option CK → Finset (Fin 3)
  | none => ∅
  | some none => Finset.univ
  | some (some _) => {0}
def kindAmount : Option CK → ℕ
  | some none => 1
  | _ => blkN
def kindPayload (c : Dev nD) (d : Fin 3) : Option CK → sProp 𝕄
  | none => iprop(emp)
  | some none => barPay c d
  | some (some (false, s)) => sndPay m ρ c s
  | some (some (true, s)) => rcvPay m ρ c s

/-- One round per cell: at a barrier one unit from each of the three others, at a send or receive cell one block's credit. -/
def Rd : Rounds.Schedule (GSem nD τ sig) (Fin 3) 𝕄 where
  duties g r := if r = 0 ∧ g.1.2 = .tc then kindDuties (kind g.2) else ∅
  unitless _ := False
  amount g _ _ := kindAmount (kind g.2)
  payload g _ d := kindPayload m ρ g.1.1 d (kind g.2)
  amount_pos g _ _ _ := by
    rcases kind g.2 with _ | _ | _
    exacts [blkN_pos, Nat.one_pos, blkN_pos]

instance Rd_payload_storable (g : GSem nD τ sig) (r : ℕ) (d : Fin 3) : BI.Storable (upEmb : UEmb _ 𝕄) ((Rd m ρ).payload g r d) := by
  show BI.Storable upEmb (kindPayload m ρ g.1.1 d (kind g.2))
  rcases kind g.2 with _ | _ | ⟨_ | _, _⟩ <;> dsimp only [kindPayload] <;> infer_instance

section Tables
omit [FloatOps F]
variable (c : Dev nD) (s : Fin 3) (b : Bool)

theorem duties_cell (k : CK) : (Rd m ρ).duties (cell c k) 0 = kindDuties (some k) := by
  dsimp only [Rd]; rw [kind_csem]; exact if_pos ⟨rfl, rfl⟩
theorem duties_bar : (Rd m ρ).duties (barCell c) 0 = Finset.univ := duties_cell m ρ c none
theorem duties_blk : (Rd m ρ).duties (cell c (some (b, s))) 0 = {0} := duties_cell m ρ c _
theorem duties_later (g : GSem nD τ sig) : ∀ r, 1 ≤ r → (Rd m ρ).duties g r = ∅ := fun r hr => by
  dsimp only [Rd]; exact if_neg fun h => by omega
theorem amount_bar (d : Fin 3) : (Rd m ρ).amount (barCell c) 0 d = 1 := by dsimp only [Rd]; rw [kind_csem]; rfl
theorem amount_blk (d : Fin 3) : (Rd m ρ).amount (cell c (some (b, s))) 0 d = blkN := by dsimp only [Rd]; rw [kind_csem]; rfl
theorem expect_bar : (Rd m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_blk : (Rd m ρ).expect (cell c (some (b, s))) 0 = blkN := by
  unfold Schedule.expect Schedule.amountOf; rw [duties_blk, Finset.sum_singleton, amount_blk]
theorem payload_bar (d : Fin 3) : (Rd m ρ).payload (barCell c) 0 d = barPay c d := by dsimp only [Rd]; rw [kind_csem]; rfl
theorem payload_snd (d : Fin 3) : (Rd m ρ).payload (sndCell c s) 0 d = sndPay m ρ c s := by dsimp only [Rd]; rw [kind_csem]; rfl
theorem payload_rcv (d : Fin 3) : (Rd m ρ).payload (rcvCell c s) 0 d = rcvPay m ρ c s := by dsimp only [Rd]; rw [kind_csem]; rfl

theorem rest_bar : bigSep ((Rd m ρ).duties (barCell c) 0 \ ∅) (fun d => (Rd m ρ).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_snd : bigSep ((Rd m ρ).duties (sndCell c s) 0 \ ∅) (fun d => (Rd m ρ).payload (sndCell c s) 0 d) = sndPay m ρ c s := by
  rw [Finset.sdiff_empty, duties_blk, bigSep_singleton, payload_snd]
theorem rest_rcv : bigSep ((Rd m ρ).duties (rcvCell c s) 0 \ ∅) (fun d => (Rd m ρ).payload (rcvCell c s) 0 d) = rcvPay m ρ c s := by
  rw [Finset.sdiff_empty, duties_blk, bigSep_singleton, payload_rcv]

end Tables

/-! ## What a device owes at launch, and the levels -/

abbrev oweRcv (c : Dev nD) (s : Fin 3) : CellTallies nD τ sig Unit := tallyAt (rcvCell (ahead c s) s) () blkN
abbrev oweBar (c : Dev nD) (s : Fin 3) : CellTallies nD τ sig Unit := tallyAt (barCell (ahead c s)) () 1

/-- The three landings it owes, in the order it will pay them from the right; -/
def Osend (c : Dev nD) : CellTallies nD τ sig Unit := oweRcv c 2 + oweRcv c 1 + oweRcv c 0
/-- and before them the three barrier units. -/
def O₀ (c : Dev nD) : CellTallies nD τ sig Unit := Osend c + oweBar c 2 + oweBar c 1 + oweBar c 0

def L (g : GSem nD τ sig) : Finset Unit := if g.1.2 = .tc then {()} else ∅
/-- Barriers at 1, receive cells at 2, all else at 0. -/
def lv (g : GSem nD τ sig) (_ : Unit) : ℕ := match kind g.2 with
  | some none => 1
  | some (some (true, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by
  have h : kind (barCell c).2 = some none := kind_csem none
  unfold lv; rw [h]
theorem lv_rcv (c : Dev nD) (s : Fin 3) (u : Unit) : lv (rcvCell c s) u = 2 := by
  have h : kind (rcvCell c s).2 = some (some (true, s)) := kind_csem (some (true, s))
  unfold lv; rw [h]

theorem tallyAt_pos {g h : GSem nD τ sig} {u v : Unit} {n : ℕ} (hp : 0 < (tallyAt h v n : CellTallies nD τ sig Unit) g u) : g = h := by
  rw [tallyAt_apply] at hp
  by_contra hn
  rw [if_neg fun h' => hn h'.1] at hp
  exact Nat.lt_irrefl 0 hp

theorem Osend_pos {c : Dev nD} {g : GSem nD τ sig} {u : Unit} (h : 0 < Osend c g u) : ∃ s, g = rcvCell (ahead c s) s := by
  unfold Osend at h
  rw [Pi.add_apply, Finsupp.add_apply, Pi.add_apply, Finsupp.add_apply] at h
  by_contra hn
  have key : ∀ s, (oweRcv c s) g u = 0 := fun s => Nat.eq_zero_of_not_pos fun hp => hn ⟨s, tallyAt_pos hp⟩
  rw [key, key, key] at h
  exact Nat.lt_irrefl 0 h

theorem O₀_pos {c : Dev nD} {g : GSem nD τ sig} {u : Unit} (h : 0 < O₀ c g u) :
    (∃ s, g = rcvCell (ahead c s) s) ∨ ∃ s, g = barCell (ahead c s) := by
  unfold O₀ at h
  rw [Pi.add_apply, Finsupp.add_apply, Pi.add_apply, Finsupp.add_apply, Pi.add_apply, Finsupp.add_apply] at h
  by_contra hn
  have key : ∀ s, (oweBar c s) g u = 0 := fun s => Nat.eq_zero_of_not_pos fun hp => hn (.inr ⟨s, tallyAt_pos hp⟩)
  have key' : Osend c g u = 0 := Nat.eq_zero_of_not_pos fun hp => hn (.inl (Osend_pos hp))
  rw [key, key, key, key'] at h
  exact Nat.lt_irrefl 0 h

omit [FloatOps F] in
/-- Waiting on a semaphore outside the exchange (the staging) is allowed while everything is still owed. -/
theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨_, rfl⟩ | ⟨_, rfl⟩ <;> exact Finset.mem_singleton_self _)
      (fun p hp => by rw [Finset.mem_singleton.mp hp]; unfold lv; rw [show kind _ = none from hq])
      (fun g u hg => by
        rcases O₀_pos hg with ⟨_, rfl⟩ | ⟨_, rfl⟩
        · rw [lv_rcv]; decide
        · rw [lv_bar]; decide)
  · rw [MayWait_zero]; iintro -; iempintro

omit [FloatOps F] in
/-- At the barrier wait only landings are owed. -/
theorem mayWait_bar (c : Dev nD) : (levAts L lv : sProp 𝕄) ⊢ MayWait (c : Thread nD τ) (.reg barS) () (Osend c) :=
  MayOwe.of_cut (L := L) (lev := lv) 1 (fun p hp => by rw [Finset.mem_singleton.mp hp, L_tc]; exact Finset.mem_singleton_self _)
    (fun g u hg => by obtain ⟨_, rfl⟩ := Osend_pos hg; exact Finset.mem_singleton_self _)
    (fun p hp => by rw [Finset.mem_singleton.mp hp]; exact le_of_eq (lv_bar c ()))
    (fun g u hg => by obtain ⟨_, rfl⟩ := Osend_pos hg; rw [lv_rcv]; decide)

/-! ## The ghost state a device starts from -/

/-- Every cell's invariant, under the names the launch allocated, and that every cell is at its only round: facts all devices share. -/
def records (K : Dev nD × CK → ℕ) : sProp 𝕄 :=
  iprop(bigSep Finset.univ (fun p : Dev nD × CK => cellInv ER (Rd m ρ) (K p) (cell p.1 p.2))
    ∗ bigSep Finset.univ (fun p : Dev nD × CK => reached ER (cell p.1 p.2) 0))
instance records_persistent (K : Dev nD × CK → ℕ) : BI.Persistent (records m ρ K) := by unfold records; infer_instance

omit [FloatOps F] in
theorem records_inv (K : Dev nD × CK → ℕ) (c : Dev nD) (k : CK) :
    records m ρ K ⊢ cellInv ER (Rd m ρ) (K (c, k)) (cell c k) := by
  unfold records
  exact sep_elim_left.trans (Idealize.SL.BI.bigSep_elim (Φ := fun p : Dev nD × CK => cellInv ER (Rd m ρ) (K p) (cell p.1 p.2)) (Finset.mem_univ (c, k)) :)
omit [FloatOps F] in
theorem records_reached (K : Dev nD × CK → ℕ) (c : Dev nD) (k : CK) :
    records m ρ K ⊢ (reached ER (cell c k) 0 : sProp 𝕄) := by
  unfold records
  exact sep_elim_right.trans (Idealize.SL.BI.bigSep_elim (Φ := fun p : Dev nD × CK => (reached ER (cell p.1 p.2) 0 : sProp 𝕄)) (Finset.mem_univ (c, k)) :)

end Cert.Exchange

end
-- ==== Proof.Steps.lean ====
/-
# One rule per effect of the kernel

Each statement takes what one kind of effect needs — a local copy, its wait, a signal, the barrier wait, a remote copy
and its two waits, a load of a slot, a store to a column half — and says what the device continues with. The body's
proof is these rules in program order.
-/
module

public import proofs.«01_k».proof.Proof.Protocol
public import Idealize.ShloMosaic.Lib.Pipeline.Value

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

abbrev 𝒱₀ : Variants := Variants.none
/-- The counters the local copies are tracked with. -/
abbrev EC : UEmb Counters (MT nD τ sig Unit (Elt F) ℕ UU ℕ) := countersEmb

variable (m : (ℓ : Loc nD τ sig) → Buf (Elt F) ℓ) (ρ : Dev nD → PrngReg)

/-- Device `c` runs `p` and ends in `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def debt (c : Dev nD) (O : CellTallies nD τ sig Unit) : sProp 𝕄 := iprop(∃ W, owes (c : Thread nD τ) O W)

section
variable {α : Type} {Q : α → sProp (MT nD τ sig Unit (Elt F) ℕ UU ℕ)} (c : Dev nD)

/-! ## Local copies -/

/-- A local copy in flight: when waited for it gives the destination reading `v`, and the source back. -/
abbrev copying {sp sp' : Space} {S : Shape} {e : EltTy} (src : Memref sig .tc sp S e) (dst : Memref sig .tc sp' S e) (q : DmaSem sig)
    (fs : Buf (Elt F) (src.view.loc (c : Thread nD τ))) (v : S.Idx → Elt F e) : sProp 𝕄 :=
  Flight EC (c : Thread nD τ) (.dma q) () dst.view.dmaCredit iprop(holds dst c v ∗ held src c fs)

theorem step_copy {sp sp' : Space} {S : Shape} {e : EltTy} (src : Memref sig .tc sp S e) (dst : Memref sig .tc sp' S e) (q : DmaSem sig)
    {hsrc : src.view.WordExact} {hdst : dst.view.WordExact} {hsem : DmaTarget.Typed (nD := nD) (τ := τ) (p := .tc) sp (.dma q) (.here dst)}
    {k : PUnit → Prog (TpuEff nD τ sig (Elt F) Λ₀ .tc) α}
    (fs : Buf (Elt F) (src.view.loc (c : Thread nD τ))) (fd : Buf (Elt F) (dst.view.loc (c : Thread nD τ))) (v : S.Idx → Elt F e)
    (hv : src.view.read (Elt F) fs = v) (hpos : 0 < dst.view.dmaCredit) :
    iprop(held src c fs ∗ held dst c fd ∗ semVal ((c : Thread nD τ), SemLoc.dma q) 0)
      ⊢ iprop((copying c src dst q fs v -∗ runs c (k ⟨⟩) Q)
          -∗ runs c (.op (.enqueueDma src (.here dst) (.dma q) hsrc hdst hsem) k) Q) := by
  iintro H Hk
  iapply (Transfers.wp_dmaLocal EC 𝒱₀ (c : Thread nD τ) none (src := src) (dst := dst) (sm := .dma q) (fs := fs) (fd := fd) () dst.view.dmaCredit rfl hpos (fun _ h => h)) $$ H
  iintro Hf
  iapply Hk
  iapply (Transfers.Flight_mono EC (c : Thread nD τ) ?_) $$ Hf
  iintro ⟨Hd, Hs⟩
  isplitl [Hd]
  · iexists _; isplitr; swap; · iexact Hd
    ipureintro
    rw [View.read_write_univ]; exact hv
  iexact Hs

theorem step_arrive {sp sp' : Space} {S : Shape} {e : EltTy} (src : Memref sig .tc sp S e) (dst : Memref sig .tc sp' S e) (q : DmaSem sig)
    {hsrc : src.view.WordExact} {hdst : dst.view.WordExact} {k : PUnit → Prog (TpuEff nD τ sig (Elt F) Λ₀ .tc) α}
    (fs : Buf (Elt F) (src.view.loc (c : Thread nD τ))) (v : S.Idx → Elt F e) :
    iprop(copying c src dst q fs v ∗ debt c 0)
      ⊢ iprop(((holds dst c v ∗ held src c fs ∗ semVal ((c : Thread nD τ), SemLoc.dma q) 0 ∗ debt c 0) -∗ runs c (k ⟨⟩) Q)
          -∗ runs c (.op (.waitDma2 q src dst hsrc hdst) k) Q) := by
  unfold debt
  iintro ⟨Hf, ⟨%W, HO⟩⟩ Hk
  iapply (Transfers.wp_waitLocal EC 𝒱₀ (c : Thread nD τ) none () rfl (D := iprop(holds dst c v ∗ held src c fs)) (W := W)) $$ [Hf HO]
  · isplitl [Hf] <;> iassumption
  iintro ⟨⟨Hd, Hs⟩, Hv, HO⟩
  iapply Hk
  isplitl [Hd]; · iexact Hd
  isplitl [Hs]; · iexact Hs
  isplitl [Hv]; · iexact Hv
  iexists _; iexact HO

/-! ## The barrier -/

variable (K : Dev nD × CK → ℕ)

/-- The signal to the device `s + 1` places ahead hands it the landing slot it will write. -/
theorem step_signal (s : Fin 3) (n : Dev nD) (hn : n = ahead c s) (O : CellTallies nD τ sig Unit) {k' : ℕ} (hk : k' = 1)
    {k : PUnit → Prog (TpuEff nD τ sig (Elt F) Λ₀ .tc) α} :
    iprop(records m ρ K ∗ debt c (O + oweBar c s) ∗ dutyTok ER (barCell (ahead c s)) 0 s.rev ∗ (∃ f, held (cmS s.rev) c f))
      ⊢ iprop((debt c O -∗ runs c (k ⟨⟩) Q) -∗ runs c (.op (.semSignal (n : Thread nD τ) barS k') k) Q) := by
  subst hn; subst hk
  unfold debt
  iintro ⟨#HR, ⟨%W, HO⟩, Ht, Hs⟩ Hk
  iapply (Rounds.wp_signal 𝒱₀ ER (Rd m ρ) (c : Thread nD τ) none (dst := (ahead c s : Thread nD τ)) (κ := K (ahead c s, none))
      (d := s.rev) (by rw [duties_bar]; exact Finset.mem_univ _) (amount_bar m ρ (ahead c s) s.rev) () O rfl) $$ [HO Ht Hs]
  · isplitr; · iapply (records_inv m ρ K (ahead c s) none); iexact HR
    isplitl [HO]; · iexact HO
    isplitl [Ht]; · iexact Ht
    isplitl [Hs]
    · rw [payload_bar]; unfold barPay; rw [ahead_rev]
      isplitl [Hs]; · iexact Hs
      iapply (records_reached m ρ K c (some (true, s.rev))); iexact HR
    iapply (records_reached m ρ K (ahead c s) none); iexact HR
  iintro HO
  iapply Hk
  iexists _; iexact HO

/-- The wait for the three signals brings the three slots this device will write, and ends its barrier's only round. -/
theorem step_barrier {k' : ℕ} (hk : k' = 3) {k : PUnit → Prog (TpuEff nD τ sig (Elt F) Λ₀ .tc) α} :
    iprop(records m ρ K ∗ levAts L lv ∗ cred (tallyAt (barCell c) () 3) ∗ debt c (Osend c) ∗ atPos ER (barCell c) 0 ∅ 0)
      ⊢ iprop(((debt c (Osend c) ∗ semVal (barCell c) 0 ∗ barPay c 0 ∗ barPay c 1 ∗ barPay c 2) -∗ runs c (k ⟨⟩) Q)
          -∗ runs c (.op (.semWait barS k') k) Q) := by
  subst hk
  unfold debt
  iintro ⟨#HR, #Hlev, Hc, ⟨%W, HO⟩, Hat⟩ Hk
  iapply (Rounds.wp_wait_rest_token 𝒱₀ ER (Rd m ρ) (c : Thread nD τ) none (κ := K (c, none))
      (wpE_semWait_eq 𝒱₀ (c : Thread nD τ) none Set.univ) (Set.mem_univ _) () (O := Osend c) (W := W) (R := 0) (m := 0) (T := ∅)
      ((Nat.zero_add _).trans (expect_bar m ρ c).symm)) $$ [Hc HO Hat]
  · isplitr; · iapply (records_inv m ρ K c none); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (Rd m ρ) (Set.mem_univ (K (c, none))) (fun h => h) (R := 0 + 1) (duties_later m ρ (barCell c))) $$ [Hat] with Hz
  · isplitr; · iapply (records_inv m ρ K c none); iexact HR
    iexact Hat
  iapply Hk
  isplitl [HO]; · iexists _; iexact HO
  isplitl [Hz]; · iexact Hz
  iexact Hp

/-! ## Remote copies -/

/-- Copy number `s` sends the rows meant for the device `s + 1` places ahead into that device's slot `s`. -/
theorem step_send (s : Fin 3) (n : Dev nD) (hn : n = ahead c s) (O : CellTallies nD τ sig Unit)
    {hsc : (cmS s : Memref sig (Dev.tc n : Thread nD τ).2.kind .vmem S256x256 .bf16).view.ref.isScScratch = false}
    {hsrc : (xSrc c s).view.WordExact} {hdst : (cmS s : Memref sig (Dev.tc n : Thread nD τ).2.kind .vmem S256x256 .bf16).view.WordExact}
    {hsem : DmaTarget.Typed .vmem (.dma (rcvS s)) (.remote (Dev.tc n : Thread nD τ) (cmS s : Memref sig (Dev.tc n : Thread nD τ).2.kind .vmem S256x256 .bf16) (.dma (sndS s)) hsc)}
    {k : PUnit → Prog (TpuEff nD τ sig (Elt F) Λ₀ .tc) α} :
    iprop(records m ρ K ∗ held (xSrc c s) c (xstg m ρ c) ∗ barPay c s ∗ debt c (O + oweRcv c s)
        ∗ dutyTok ER (sndCell c s) 0 0 ∗ dutyTok ER (rcvCell (ahead c s) s) 0 0)
      ⊢ iprop(((cred (tallyAt (sndCell c s) () blkN) ∗ debt c O) -∗ runs c (k ⟨⟩) Q)
          -∗ runs c (.op (.enqueueDma (xSrc c s) (.remote (Dev.tc n : Thread nD τ) (cmS s) (.dma (sndS s)) hsc) (.dma (rcvS s)) hsrc hdst hsem) k) Q) := by
  subst hn
  unfold debt barPay
  iintro ⟨#HR, Hx, ⟨⟨%fn, Hn⟩, #Hr⟩, ⟨%W, HO⟩, Hts, Htr⟩ Hk
  iapply (Rounds.wp_send_pointsTo 𝒱₀ ER (Rd m ρ) (c : Thread nD τ) none (κ₁ := K (c, some (false, s))) (κ₂ := K (ahead c s, some (true, s)))
    (r₁ := 0) (r₂ := 0) (d₁ := 0) (d₂ := 0) (fs := xstg m ρ c) (fd := fn)
    (by rw [duties_blk]; exact Finset.mem_singleton_self _) (by rw [duties_blk]; exact Finset.mem_singleton_self _)
    () () blkN rfl (amount_blk m ρ c s false 0) (amount_blk m ρ (ahead c s) s true 0) O rfl (W := W)
    (by rw [payload_snd]; exact BI.Entails.refl _)
    (by
      rw [payload_rcv]; unfold rcvPay
      rw [ahead_rev]
      iintro H; iexists _
      isplitr; swap; · iexact H
      ipureintro
      exact View.read_write_univ _ _)) $$ [Hx Hn HO Hts Htr]
  · isplitr; · iapply (records_inv m ρ K c (some (false, s))); iexact HR
    isplitr; · iapply (records_inv m ρ K (ahead c s) (some (true, s))); iexact HR
    isplitl [Hx]; · iexact Hx
    isplitl [Hn]; · iexact Hn
    isplitl [HO]; · iexact HO
    isplitl [Hts]; · iexact Hts
    isplitr; · iapply (records_reached m ρ K c (some (false, s))); iexact HR
    isplitl [Htr]; · iexact Htr
    iexact Hr
  iintro ⟨Hc, HO⟩
  iapply Hk
  isplitl [Hc]; · iexact Hc
  iexists _; iexact HO

/-- Waiting for one of the exchange's copies on either of its cells gives that cell's payload, and ends the cell's only round. -/
theorem step_landed (b : Bool) (s : Fin 3) (q : DmaSem sig) (hq : csem (some (b, s)) = .dma q) (P : sProp 𝕄)
    (hP : bigSep ((Rd m ρ).duties (cell c (some (b, s))) 0 \ ∅) (fun d => (Rd m ρ).payload (cell c (some (b, s))) 0 d) = P)
    {sp sp' : Space} {S : Shape} {e : EltTy} {S' : Shape} {e' : EltTy} (src : Memref sig .tc sp S e) (dst : Memref sig .tc sp' S' e') (hcr : dst.view.dmaCredit = blkN)
    {hsrc : src.view.WordExact} {hdst : dst.view.WordExact} {k : PUnit → Prog (TpuEff nD τ sig (Elt F) Λ₀ .tc) α} :
    iprop(records m ρ K ∗ cred (tallyAt (cell c (some (b, s))) () blkN) ∗ debt c 0 ∗ atPos ER (cell c (some (b, s))) 0 ∅ 0)
      ⊢ iprop(((debt c 0 ∗ semVal (cell c (some (b, s))) 0 ∗ P) -∗ runs c (k ⟨⟩) Q)
          -∗ runs c (.op (.waitDma2 q src dst hsrc hdst) k) Q) := by
  subst hP
  have hcell : cell c (some (b, s)) = ((c : Thread nD τ), SemLoc.dma q) := Prod.ext rfl hq
  have hexp := expect_blk m ρ c s b
  have hinv := records_inv m ρ K c (some (b, s))
  have hlate := duties_later m ρ (cell c (some (b, s)))
  rw [hcell] at hexp hinv hlate ⊢
  unfold debt
  iintro ⟨#HR, Hc, ⟨%W, HO⟩, Hat⟩ Hk
  iapply (Rounds.wp_wait_rest_token 𝒱₀ ER (Rd m ρ) (c : Thread nD τ) none (κ := K (c, some (b, s)))
      (wpE_waitDma2_eq 𝒱₀ (c : Thread nD τ) none Set.univ) (Set.mem_univ _) () (O := 0) (W := W) (R := 0) (m := 0) (T := ∅)
      ((Nat.zero_add _).trans (hcr.trans hexp.symm))) $$ [Hc HO Hat]
  · isplitr; · iapply hinv; iexact HR
    isplitl [Hc]; · rw [hcr]; iexact Hc
    isplitl [HO]; · iexact HO
    isplitr; · rw [MayWait_zero]; iempintro
    iexact Hat
  iintro ⟨HO, Hat, -, Hpay⟩
  imod (Rounds.cell_close ER (Rd m ρ) (Set.mem_univ (K (c, some (b, s)))) (fun h => h) (R := 0 + 1) hlate) $$ [Hat] with Hz
  · isplitr; · iapply hinv; iexact HR
    iexact Hat
  iapply Hk
  isplitl [HO]; · iexists _; iexact HO
  isplitl [Hz]; · iexact Hz
  iexact Hpay

theorem step_sendWait (s : Fin 3) {sp sp' : Space} {S : Shape} {e : EltTy} {S' : Shape} {e' : EltTy} (src : Memref sig .tc sp S e) (dst : Memref sig .tc sp' S' e') (hcr : dst.view.dmaCredit = blkN)
    {hsrc : src.view.WordExact} {hdst : dst.view.WordExact} {k : PUnit → Prog (TpuEff nD τ sig (Elt F) Λ₀ .tc) α} :
    iprop(records m ρ K ∗ cred (tallyAt (sndCell c s) () blkN) ∗ debt c 0 ∗ atPos ER (sndCell c s) 0 ∅ 0)
      ⊢ iprop(((debt c 0 ∗ semVal (sndCell c s) 0 ∗ held (xSrc c s) c (xstg m ρ c)) -∗ runs c (k ⟨⟩) Q)
          -∗ runs c (.op (.waitDma2 (sndS s) src dst hsrc hdst) k) Q) :=
  step_landed m ρ c K false s (sndS s) rfl _ (rest_snd m ρ c s) src dst hcr

theorem step_recvWait (s : Fin 3) {sp sp' : Space} {S : Shape} {e : EltTy} {S' : Shape} {e' : EltTy} (src : Memref sig .tc sp S e) (dst : Memref sig .tc sp' S' e') (hcr : dst.view.dmaCredit = blkN)
    {hsrc : src.view.WordExact} {hdst : dst.view.WordExact} {k : PUnit → Prog (TpuEff nD τ sig (Elt F) Λ₀ .tc) α} :
    iprop(records m ρ K ∗ cred (tallyAt (rcvCell c s) () blkN) ∗ debt c 0 ∗ atPos ER (rcvCell c s) 0 ∅ 0)
      ⊢ iprop(((debt c 0 ∗ semVal (rcvCell c s) 0 ∗ holds (cmS s) c (sent m ρ (ahead c s.rev) s)) -∗ runs c (k ⟨⟩) Q)
          -∗ runs c (.op (.waitDma2 (rcvS s) src dst hsrc hdst) k) Q) :=
  step_landed m ρ c K true s (rcvS s) rfl _ (rest_rcv m ρ c s) src dst hcr

/-! ## Loads and stores -/

/-- A slot's contents as a load sees them, under a leading axis of one. -/
def wLift (v : S256x1024.Idx → Elt F .f32) : S1x256x1024.Idx → Elt F .f32 := shapeCast S1x256x1024 v (by decide)
def cLift (v : S256x256.Idx → Elt F .bf16) : S1x256x256.Idx → Elt F .bf16 := shapeCast S1x256x256 v (by decide)

theorem setOn_whole (b : Ref sig .tc) (r : Rect b.ty.shape) : (View.whole b).setOn r.set = r.set :=
  (View.set_slice (View.whole b) r).symm.trans (View.set_slice_whole b r)

omit [FloatOps F] in
theorem wv_read (k : Fin 4) (f : Buf (Elt F) (wvM.view.loc (c : Thread nD τ))) :
    wvM.view.readAt (Elt F) (wvR k).toLoadRect f = wLift ((wvS k).view.read (Elt F) f) := by
  unfold wLift
  rw [Memref.read_squeeze_slice (hc := shapeCasts_S1x256x1024_S256x1024)]
  exact (shapeCast_shapeCast _ _ _).symm
omit [FloatOps F] in
theorem cm_read (s : Fin 3) (f : Buf (Elt F) (cmM.view.loc (c : Thread nD τ))) :
    cmM.view.readAt (Elt F) (cmR s).toLoadRect f = cLift ((cmS s).view.read (Elt F) f) := by
  unfold cLift
  rw [Memref.read_squeeze_slice (hc := shapeCasts_S1x256x256_S256x256)]
  exact (shapeCast_shapeCast _ _ _).symm

theorem step_loadW (k : Fin 4) (v : S256x1024.Idx → Elt F .f32) {hl : wvM.view.LoadsAt (wvR k).toLoadRect}
    {kt : ((wvR k).shape.Idx → Elt F .f32) → Prog (TpuEff nD τ sig (Elt F) Λ₀ .tc) α} :
    holds (wvS k) c v ⊢ iprop((holds (wvS k) c v -∗ runs c (kt (wLift v)) Q) -∗ runs c (.op (.load wvM (wvR k).toLoadRect hl) kt) Q) := by
  iintro ⟨%f, %hf, H⟩ Hk
  iapply (wp_load 𝒱₀ (c : Thread nD τ) none Set.univ (m := wvM) (r := (wvR k).toLoadRect) (S := (wvS k).view.set)
    (by rw [wvS_set]; exact le_of_eq (setOn_whole _ _))) $$ H
  rw [wv_read, hf]
  iintro H
  iapply Hk
  iexists f; isplitr; · (ipureintro; exact hf)
  iexact H

theorem step_loadC (s : Fin 3) (v : S256x256.Idx → Elt F .bf16) {hl : cmM.view.LoadsAt (cmR s).toLoadRect}
    {kt : ((cmR s).shape.Idx → Elt F .bf16) → Prog (TpuEff nD τ sig (Elt F) Λ₀ .tc) α} :
    holds (cmS s) c v ⊢ iprop((holds (cmS s) c v -∗ runs c (kt (cLift v)) Q) -∗ runs c (.op (.load cmM (cmR s).toLoadRect hl) kt) Q) := by
  iintro ⟨%f, %hf, H⟩ Hk
  iapply (wp_load 𝒱₀ (c : Thread nD τ) none Set.univ (m := cmM) (r := (cmR s).toLoadRect) (S := (cmS s).view.set)
    (by rw [cmS_set]; exact le_of_eq (setOn_whole _ _))) $$ H
  rw [cm_read, hf]
  iintro H
  iapply Hk
  iexists f; isplitr; · (ipureintro; exact hf)
  iexact H

/-- The rows of `x` the device keeps. -/
def own : S256x256.Idx → Elt F .bf16 := xM.view.readAt (Elt F) (xOwnR c).toLoadRect (xstg m ρ c)

theorem step_loadX {hl : xM.view.LoadsAt (xOwnR c).toLoadRect} {kt : ((xOwnR c).shape.Idx → Elt F .bf16) → Prog (TpuEff nD τ sig (Elt F) Λ₀ .tc) α} :
    held (xOwn c) c (xstg m ρ c) ⊢ iprop((held (xOwn c) c (xstg m ρ c) -∗ runs c (kt (own m ρ c)) Q)
      -∗ runs c (.op (.load xM (xOwnR c).toLoadRect hl) kt) Q) :=
  wp_load 𝒱₀ (c : Thread nD τ) none Set.univ (m := xM) (r := (xOwnR c).toLoadRect) (S := (xOwn c).view.set)
    (by rw [xOwn_set]; exact le_of_eq (setOn_whole _ _))

/-- The program reads a column half before it overwrites it; the value is not used. -/
theorem step_loadY (h : Fin 2) (f : Buf (Elt F) (yvM.view.loc (c : Thread nD τ))) {hl : yvM.view.LoadsAt (hR h).toLoadRect}
    {kt : ((hR h).shape.Idx → Elt F .bf16) → Prog (TpuEff nD τ sig (Elt F) Λ₀ .tc) α} :
    held (yH h) c f ⊢ iprop((held (yH h) c f -∗ runs c (kt (yvM.view.readAt (Elt F) (hR h).toLoadRect f)) Q)
      -∗ runs c (.op (.load yvM (hR h).toLoadRect hl) kt) Q) :=
  wp_load 𝒱₀ (c : Thread nD τ) none Set.univ (m := yvM) (r := (hR h).toLoadRect) (S := (yH h).view.set)
    (by rw [yH_set]; exact le_of_eq (setOn_whole _ _))

theorem step_store (h : Fin 2) (f : Buf (Elt F) (yvM.view.loc (c : Thread nD τ))) (w : S256x512.Idx → Elt F .bf16)
    {hx : (yvM.access (hR h)).Stores Finset.univ} {hm : (Finset.univ : Finset (hR h).shape.Idx) = Finset.univ ∨ ∀ a, (hR h).stride a = 1}
    {kt : PUnit → Prog (TpuEff nD τ sig (Elt F) Λ₀ .tc) α} :
    held (yH h) c f ⊢ iprop((holds (yH h) c w -∗ runs c (kt ⟨⟩) Q) -∗ runs c (.op (.store yvM (hR h) w Finset.univ hx hm) kt) Q) := by
  iintro H Hk
  iapply (wp_store 𝒱₀ (c : Thread nD τ) none Set.univ (m := yvM) (r := hR h) (w := w) (Mk := Finset.univ) (S := (yH h).view.set) (fun _ h => h)) $$ H
  iintro H
  iapply Hk
  iexists _; isplitr; swap; · iexact H
  ipureintro
  exact View.read_write_univ _ _

end

end Cert.Exchange

end
-- ==== Proof.Body.lean ====
/-
# The kernel's body, effect by effect

The printed body is nine parts and a tail. Each part is run here from the pieces it uses to the pieces it leaves; the
body is the parts in order. The values it leaves are named: `acc1`, `acc2`, `acc3` are the running sums, `half` the two
column halves of the tile it writes out.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The values -/

/-- What arrives in landing slot `s`. -/
def got (c : Dev nD) (s : Fin 3) : S256x256.Idx → Elt F .bf16 := sent m ρ (ahead c s.rev) s
/-- The device's own block of `x` on its own weight rows; -/
def acc1 (c : Dev nD) : FVec F S256x1024 .f32 := k0_pay1 (own m ρ c) (wLift (wgot m c 0))
/-- plus the block from the device before it; -/
def acc2 (c : Dev nD) : FVec F S256x1024 .f32 := k0_pay2 (acc1 m ρ c) (cLift (got m ρ c 0)) (wLift (wgot m c 1))
/-- plus the block from the device after it. -/
def acc3 (c : Dev nD) : FVec F S256x1024 .f32 := k0_pay3 (acc2 m ρ c) (cLift (got m ρ c 2)) (wLift (wgot m c 2))
/-- The two column halves written: the block from the device across added, and rounded. -/
def half (c : Dev nD) (h : Fin 2) : S256x512.Idx → Elt F .bf16 := match h with
  | 0 => k0_pay5 (k0_pay4 (acc2 m ρ c) (cLift (got m ρ c 2)) (wLift (wgot m c 2))) (cLift (got m ρ c 1)) (wLift (wgot m c 3))
  | 1 => k0_pay6 (acc3 m ρ c) (cLift (got m ρ c 1)) (wLift (wgot m c 3))

/-! ## The pieces, as states of the run -/

abbrev w0 (c : Dev nD) : Buf (Elt F) (wM.view.loc (c : Thread nD τ)) := m ((c : Thread nD τ).loc main_arg1)

def wIdle (c : Dev nD) (k : Fin 4) : sProp 𝕄 :=
  iprop(held (wSrc c k) c (w0 m c) ∗ (∃ f, held (wvS k) c f) ∗ semVal ((c : Thread nD τ), SemLoc.dma (wS k)) 0)
def wFly (c : Dev nD) (k : Fin 4) : sProp 𝕄 := copying c (wSrc c k) (wvS k) (wS k) (w0 m c) (wgot m c k)
/-- The weights of a slot are back and the cell is at rest. -/
def wBack (c : Dev nD) (k : Fin 4) : sProp 𝕄 :=
  iprop(held (wSrc c k) c (w0 m c) ∗ semVal ((c : Thread nD τ), SemLoc.dma (wS k)) 0)

def slot (c : Dev nD) (s : Fin 3) : sProp 𝕄 := iprop(∃ f, held (cmS s) c f)
/-- What a device needs for its copy number `s`. -/
def mail (c : Dev nD) (s : Fin 3) : sProp 𝕄 :=
  iprop(held (xSrc c s) c (xstg m ρ c) ∗ dutyTok ER (sndCell c s) 0 0 ∗ dutyTok ER (rcvCell (ahead c s) s) 0 0)
/-- What it needs to wait for the copy's departure, and for the arrival in its own slot `s`. -/
def outbox (c : Dev nD) (s : Fin 3) : sProp 𝕄 := iprop(cred (tallyAt (sndCell c s) () blkN) ∗ atPos ER (sndCell c s) 0 ∅ 0)
def inbox (c : Dev nD) (s : Fin 3) : sProp 𝕄 := iprop(cred (tallyAt (rcvCell c s) () blkN) ∗ atPos ER (rcvCell c s) 0 ∅ 0)
/-- Afterwards: the rows back, the slot holding what was sent, both cells at rest. -/
def gone (c : Dev nD) (s : Fin 3) : sProp 𝕄 := iprop(semVal (sndCell c s) 0 ∗ held (xSrc c s) c (xstg m ρ c))
def came (c : Dev nD) (s : Fin 3) : sProp 𝕄 := holds (cmS s) c (got m ρ c s)

/-! ## The parts, applied to the launch's buffers -/

abbrev K1 := k0_part1 (F := F) xM (Memref.isWhole_whole _) wM (Memref.isWhole_whole _) oM (Memref.isWhole_whole _)
  wvM (Memref.isWhole_whole _) cmM (Memref.isWhole_whole _) yvM (Memref.isWhole_whole _) cc0_scratch3 cc0_scratch4 cc0_scratch5 cc0_scratch6
abbrev K2 := k0_part2 (F := F) xM (Memref.isWhole_whole _) wM (Memref.isWhole_whole _) oM (Memref.isWhole_whole _)
  wvM (Memref.isWhole_whole _) cmM (Memref.isWhole_whole _) yvM (Memref.isWhole_whole _) cc0_scratch3 cc0_scratch4 cc0_scratch5 cc0_scratch6
abbrev K3 := k0_part3 (F := F) xM (Memref.isWhole_whole _) wM (Memref.isWhole_whole _) oM (Memref.isWhole_whole _)
  wvM (Memref.isWhole_whole _) cmM (Memref.isWhole_whole _) yvM (Memref.isWhole_whole _) cc0_scratch3 cc0_scratch4 cc0_scratch5 cc0_scratch6
abbrev K4 := k0_part4 (F := F) xM (Memref.isWhole_whole _) wM (Memref.isWhole_whole _) oM (Memref.isWhole_whole _)
  wvM (Memref.isWhole_whole _) cmM (Memref.isWhole_whole _) yvM (Memref.isWhole_whole _) cc0_scratch3 cc0_scratch4 cc0_scratch5 cc0_scratch6
abbrev K5 := k0_part5 (F := F) xM (Memref.isWhole_whole _) wM (Memref.isWhole_whole _) oM (Memref.isWhole_whole _)
  wvM (Memref.isWhole_whole _) cmM (Memref.isWhole_whole _) yvM (Memref.isWhole_whole _) cc0_scratch3 cc0_scratch4 cc0_scratch5 cc0_scratch6
abbrev K6 := k0_part6 (F := F) xM (Memref.isWhole_whole _) wM (Memref.isWhole_whole _) oM (Memref.isWhole_whole _)
  wvM (Memref.isWhole_whole _) cmM (Memref.isWhole_whole _) yvM (Memref.isWhole_whole _) cc0_scratch3 cc0_scratch4 cc0_scratch5 cc0_scratch6
abbrev K7 := k0_part7 (F := F) xM (Memref.isWhole_whole _) wM (Memref.isWhole_whole _) oM (Memref.isWhole_whole _)
  wvM (Memref.isWhole_whole _) cmM (Memref.isWhole_whole _) yvM (Memref.isWhole_whole _) cc0_scratch3 cc0_scratch4 cc0_scratch5 cc0_scratch6
abbrev K8 := k0_part8 (F := F) xM (Memref.isWhole_whole _) wM (Memref.isWhole_whole _) oM (Memref.isWhole_whole _)
  wvM (Memref.isWhole_whole _) cmM (Memref.isWhole_whole _) yvM (Memref.isWhole_whole _) cc0_scratch3 cc0_scratch4 cc0_scratch5 cc0_scratch6
abbrev K9 := k0_part9 (F := F) xM (Memref.isWhole_whole _) wM (Memref.isWhole_whole _) oM (Memref.isWhole_whole _)
  wvM (Memref.isWhole_whole _) cmM (Memref.isWhole_whole _) yvM (Memref.isWhole_whole _) cc0_scratch3 cc0_scratch4 cc0_scratch5 cc0_scratch6

/-- The barrier semaphore as the program passes it along. -/
abbrev barA : Sems sig S_ := SemArray.scalar (sig.barrier 0 rfl)

variable (c : Dev nD) (K : Dev nD × CK → ℕ)

theorem runs_ret {α : Type} (v : α) {Q : α → sProp (MT nD τ sig Unit (Elt F) ℕ UU ℕ)} : Q v ⊢ runs c (.ret v) Q := by
  show Q v ⊢ wp frame (wpE (defs₀ (F := F)) 𝒱₀ (c : Thread nD τ) none) Set.univ (.ret v) Q
  rw [wp_ret]; iintro H; imodintro; iexact H

/-- A weight copy issued. -/
theorem fetchW (k : Fin 4) {α : Type} {Q : α → sProp (MT nD τ sig Unit (Elt F) ℕ UU ℕ)}
    {hsrc : (wSrc c k).view.WordExact} {hdst : (wvS k).view.WordExact} {hsem : DmaTarget.Typed (nD := nD) (τ := τ) (p := .tc) .hbm (.dma (wS k)) (.here (wvS k))}
    {kt : PUnit → Prog (TpuEff nD τ sig (Elt F) Λ₀ .tc) α} :
    wIdle m c k ⊢ iprop((wFly m c k -∗ runs c (kt ⟨⟩) Q) -∗ runs c (.op (.enqueueDma (wSrc c k) (.here (wvS k)) (.dma (wS k)) hsrc hdst hsem) kt) Q) := by
  unfold wIdle wFly
  iintro ⟨Hs, ⟨%f, Hd⟩, Hv⟩ Hk
  iapply (step_copy c (wSrc c k) (wvS k) (wS k) (w0 m c) f (wgot m c k) rfl (View.dmaCredit_pos _ (by decide))) $$ [Hs Hd Hv]
  · isplitl [Hs]; · iexact Hs
    isplitl [Hd] <;> iassumption
  iexact Hk

/-- A weight copy waited for. -/
theorem arriveW (k : Fin 4) {α : Type} {Q : α → sProp (MT nD τ sig Unit (Elt F) ℕ UU ℕ)}
    {hsrc : (wSrc c k).view.WordExact} {hdst : (wvS k).view.WordExact} {kt : PUnit → Prog (TpuEff nD τ sig (Elt F) Λ₀ .tc) α} :
    iprop(wFly m c k ∗ debt c 0) ⊢ iprop(((holds (wvS k) c (wgot m c k) ∗ wBack m c k ∗ debt c 0) -∗ runs c (kt ⟨⟩) Q)
      -∗ runs c (.op (.waitDma2 (wS k) (wSrc c k) (wvS k) hsrc hdst) kt) Q) := by
  unfold wFly wBack
  iintro H Hk
  iapply (step_arrive c (wSrc c k) (wvS k) (wS k) (w0 m c) (wgot m c k)) $$ H
  iintro ⟨Hd, Hs, Hv, HO⟩
  iapply Hk
  isplitl [Hd]; · iexact Hd
  isplitl [Hs Hv]
  · isplitl [Hs] <;> iassumption
  iexact HO

theorem part1 (Q : _ → sProp (MT nD τ sig Unit (Elt F) ℕ UU ℕ)) :
    iprop(wIdle m c 0 ∗ wIdle m c 1 ∗ (∀ r, ⌜r.1 = c⌝ -∗ (wFly m c 0 ∗ wFly m c 1) -∗ Q r)) ⊢ runs c (K1 (F := F)) Q := by
  unfold K1
  simp only [k0_part1_eq_skeleton]; unfold k0_part1_skel
  simp only [Prog.lift, Prog.bind_op, Prog.bind_ret, Prog.pure_eq_ret, wp_deviceId]
  iintro ⟨H0, H1, Hk⟩
  iapply (fetchW m c 0) $$ H0; iintro H0
  iapply (fetchW m c 1) $$ H1; iintro H1
  iapply (runs_ret c)
  iapply Hk
  · ipureintro; rfl
  isplitl [H0] <;> iassumption

theorem part2 (Q : _ → sProp (MT nD τ sig Unit (Elt F) ℕ UU ℕ)) (a b d : BitVec 32) (e : BitVec 1) :
    iprop(wIdle m c 2 ∗ wIdle m c 3 ∗ (∀ r, ⌜r.1 = barA⌝ -∗ (wFly m c 2 ∗ wFly m c 3) -∗ Q r)) ⊢ runs c (K2 (F := F) c a b d e) Q := by
  unfold K2
  simp only [k0_part2_eq_skeleton]; unfold k0_part2_skel
  simp only [Prog.lift, Prog.bind_op, Prog.bind_ret, Prog.pure_eq_ret]
  iintro ⟨H0, H1, Hk⟩
  iapply (fetchW m c 2) $$ H0; iintro H0
  iapply (fetchW m c 3) $$ H1; iintro H1
  iapply (runs_ret c)
  iapply Hk
  · ipureintro; rfl
  isplitl [H0] <;> iassumption

/-- Two of the signals. -/
theorem part3 (Q : _ → sProp (MT nD τ sig Unit (Elt F) ℕ UU ℕ)) (a b d : BitVec 32) :
    iprop(records m ρ K ∗ debt c (O₀ c) ∗ (dutyTok ER (barCell (ahead c 0)) 0 2 ∗ slot c 2) ∗ (dutyTok ER (barCell (ahead c 1)) 0 1 ∗ slot c 1)
        ∗ (∀ r, debt c (Osend c + oweBar c 2) -∗ Q r)) ⊢ runs c (K3 (F := F) c a barA b d) Q := by
  unfold K3
  simp only [k0_part3_eq_skeleton]; unfold k0_part3_skel
  simp only [semSignalWord, Prog.lift, Prog.bind_op, Prog.bind_ret, Prog.pure_eq_ret]
  unfold slot
  iintro ⟨#HR, HO, ⟨Ht0, Hs0⟩, ⟨Ht1, Hs1⟩, Hk⟩
  iapply (step_signal m ρ c K 0 _ (dev1_eq c) (Osend c + oweBar c 2 + oweBar c 1) (by decide)) $$ [HO Ht0 Hs0]
  · isplitr; · iexact HR
    isplitl [HO]; · iexact HO
    isplitl [Ht0]; · iexact Ht0
    iexact Hs0
  iintro HO
  iapply (step_signal m ρ c K 1 _ (dev2_eq c) (Osend c + oweBar c 2) (by decide)) $$ [HO Ht1 Hs1]
  · isplitr; · iexact HR
    isplitl [HO]; · iexact HO
    isplitl [Ht1]; · iexact Ht1
    iexact Hs1
  iintro HO
  iapply (runs_ret c)
  iapply Hk; iexact HO

/-- A copy issued to the device ahead. -/
theorem post (s : Fin 3) (n : Dev nD) (hn : n = ahead c s) (O : CellTallies nD τ sig Unit) {α : Type} {Q : α → sProp (MT nD τ sig Unit (Elt F) ℕ UU ℕ)}
    {hsc : (cmS s : Memref sig (Dev.tc n : Thread nD τ).2.kind .vmem S256x256 .bf16).view.ref.isScScratch = false}
    {hsrc : (xSrc c s).view.WordExact} {hdst : (cmS s : Memref sig (Dev.tc n : Thread nD τ).2.kind .vmem S256x256 .bf16).view.WordExact}
    {hsem : DmaTarget.Typed .vmem (.dma (rcvS s)) (.remote (Dev.tc n : Thread nD τ) (cmS s : Memref sig (Dev.tc n : Thread nD τ).2.kind .vmem S256x256 .bf16) (.dma (sndS s)) hsc)}
    {k : PUnit → Prog (TpuEff nD τ sig (Elt F) Λ₀ .tc) α} :
    iprop(records m ρ K ∗ mail m ρ c s ∗ barPay c s ∗ debt c (O + oweRcv c s) ∗ atPos ER (sndCell c s) 0 ∅ 0)
      ⊢ iprop(((outbox c s ∗ debt c O) -∗ runs c (k ⟨⟩) Q)
          -∗ runs c (.op (.enqueueDma (xSrc c s) (.remote (Dev.tc n : Thread nD τ) (cmS s) (.dma (sndS s)) hsc) (.dma (rcvS s)) hsrc hdst hsem) k) Q) := by
  unfold mail outbox
  iintro ⟨#HR, ⟨Hx, Hts, Htr⟩, Hp, HO, Hat⟩ Hk
  iapply (step_send m ρ c K s n hn O) $$ [Hx Hts Htr Hp HO]
  · isplitr; · iexact HR
    isplitl [Hx]; · iexact Hx
    isplitl [Hp]; · iexact Hp
    isplitl [HO]; · iexact HO
    isplitl [Hts] <;> iassumption
  iintro ⟨Hc, HO⟩
  iapply Hk
  isplitl [Hc Hat]
  · isplitl [Hc] <;> iassumption
  iexact HO

/-- The third signal, the barrier, the first copy. -/
theorem part4 (Q : _ → sProp (MT nD τ sig Unit (Elt F) ℕ UU ℕ)) (a b : BitVec 32) :
    iprop(records m ρ K ∗ levAts L lv ∗ debt c (Osend c + oweBar c 2) ∗ (dutyTok ER (barCell (ahead c 2)) 0 0 ∗ slot c 0)
        ∗ cred (tallyAt (barCell c) () 3) ∗ atPos ER (barCell c) 0 ∅ 0 ∗ mail m ρ c 0 ∗ atPos ER (sndCell c 0) 0 ∅ 0
        ∗ (∀ r, (debt c (oweRcv c 2 + oweRcv c 1) ∗ semVal (barCell c) 0 ∗ outbox c 0 ∗ barPay c 1 ∗ barPay c 2) -∗ Q r))
      ⊢ runs c (K4 (F := F) c a barA b) Q := by
  unfold K4
  simp only [k0_part4_eq_skeleton]; unfold k0_part4_skel
  simp only [semSignalWord, semWaitWord, Prog.lift, Prog.bind_op, Prog.bind_ret, Prog.pure_eq_ret]
  unfold slot
  iintro ⟨#HR, #Hlev, HO, ⟨Ht, Hs⟩, Hc, Hat, Hm, Hats, Hk⟩
  iapply (step_signal m ρ c K 2 _ (dev3_eq c) (Osend c) (by decide)) $$ [HO Ht Hs]
  · isplitr; · iexact HR
    isplitl [HO]; · iexact HO
    isplitl [Ht]; · iexact Ht
    iexact Hs
  iintro HO
  iapply (step_barrier m ρ c K (by decide)) $$ [Hc HO Hat]
  · isplitr; · iexact HR
    isplitr; · iexact Hlev
    isplitl [Hc]; · iexact Hc
    isplitl [HO] <;> iassumption
  iintro ⟨HO, Hz, Hp0, Hp1, Hp2⟩
  iapply (post m ρ c K 0 _ (dev4_eq c) (oweRcv c 2 + oweRcv c 1)) $$ [Hm Hp0 HO Hats]
  · isplitr; · iexact HR
    isplitl [Hm]; · iexact Hm
    isplitl [Hp0]; · iexact Hp0
    isplitl [HO]; · iexact HO
    iexact Hats
  iintro ⟨Hb, HO⟩
  iapply (runs_ret c)
  iapply Hk
  isplitl [HO]; · iexact HO
  isplitl [Hz]; · iexact Hz
  isplitl [Hb]; · iexact Hb
  isplitl [Hp1] <;> iassumption

/-- The second copy. -/
theorem part5 (Q : _ → sProp (MT nD τ sig Unit (Elt F) ℕ UU ℕ)) (a b d : BitVec 32) (e f g : BitVec 1) :
    iprop(records m ρ K ∗ debt c (oweRcv c 2 + oweRcv c 1) ∗ barPay c 1 ∗ mail m ρ c 1 ∗ atPos ER (sndCell c 1) 0 ∅ 0
        ∗ (∀ r, (debt c (oweRcv c 2) ∗ outbox c 1) -∗ Q r))
      ⊢ runs c (K5 (F := F) c a b d e f g) Q := by
  unfold K5
  simp only [k0_part5_eq_skeleton]; unfold k0_part5_skel
  simp only [Prog.lift, Prog.bind_op, Prog.bind_ret, Prog.pure_eq_ret]
  iintro ⟨#HR, HO, Hp, Hm, Hats, Hk⟩
  iapply (post m ρ c K 1 _ (dev5_eq c) (oweRcv c 2)) $$ [Hm Hp HO Hats]
  · isplitr; · iexact HR
    isplitl [Hm]; · iexact Hm
    isplitl [Hp]; · iexact Hp
    isplitl [HO] <;> iassumption
  iintro ⟨Hb, HO⟩
  iapply (runs_ret c)
  iapply Hk
  isplitl [HO] <;> iassumption

/-- The departure of copy `s` waited for; -/
theorem left (s : Fin 3) {sp sp' : Space} {S : Shape} {e : EltTy} {S' : Shape} {e' : EltTy} (src : Memref sig .tc sp S e) (dst : Memref sig .tc sp' S' e') (hcr : dst.view.dmaCredit = blkN)
    {hsrc : src.view.WordExact} {hdst : dst.view.WordExact} {α : Type} {Q : α → sProp (MT nD τ sig Unit (Elt F) ℕ UU ℕ)} {k : PUnit → Prog (TpuEff nD τ sig (Elt F) Λ₀ .tc) α} :
    iprop(records m ρ K ∗ outbox c s ∗ debt c 0)
      ⊢ iprop(((debt c 0 ∗ gone m ρ c s) -∗ runs c (k ⟨⟩) Q) -∗ runs c (.op (.waitDma2 (sndS s) src dst hsrc hdst) k) Q) := by
  unfold outbox gone
  iintro ⟨#HR, ⟨Hc, Hat⟩, HO⟩ Hk
  iapply (step_sendWait m ρ c K s src dst hcr) $$ [Hc Hat HO]
  · isplitr; · iexact HR
    isplitl [Hc]; · iexact Hc
    isplitl [HO] <;> iassumption
  iexact Hk

/-- and its arrival in slot `s`. -/
theorem landed (s : Fin 3) {sp sp' : Space} {S : Shape} {e : EltTy} {S' : Shape} {e' : EltTy} (src : Memref sig .tc sp S e) (dst : Memref sig .tc sp' S' e') (hcr : dst.view.dmaCredit = blkN)
    {hsrc : src.view.WordExact} {hdst : dst.view.WordExact} {α : Type} {Q : α → sProp (MT nD τ sig Unit (Elt F) ℕ UU ℕ)} {k : PUnit → Prog (TpuEff nD τ sig (Elt F) Λ₀ .tc) α} :
    iprop(records m ρ K ∗ inbox c s ∗ debt c 0)
      ⊢ iprop(((debt c 0 ∗ semVal (rcvCell c s) 0 ∗ came m ρ c s) -∗ runs c (k ⟨⟩) Q) -∗ runs c (.op (.waitDma2 (rcvS s) src dst hsrc hdst) k) Q) := by
  unfold inbox came
  iintro ⟨#HR, ⟨Hc, Hat⟩, HO⟩ Hk
  iapply (step_recvWait m ρ c K s src dst hcr) $$ [Hc Hat HO]
  · isplitr; · iexact HR
    isplitl [Hc]; · iexact Hc
    isplitl [HO] <;> iassumption
  iexact Hk

theorem debt_last : debt c (oweRcv c 2) ⊢ (debt c (0 + oweRcv c 2) : sProp 𝕄) := by rw [zero_add]

/-- The third copy; then the first weights, the device's own rows, and the first arrival. -/
theorem part6 (Q : _ → sProp (MT nD τ sig Unit (Elt F) ℕ UU ℕ)) (a b : BitVec 32) :
    iprop(records m ρ K ∗ debt c (oweRcv c 2) ∗ barPay c 2 ∗ mail m ρ c 2 ∗ atPos ER (sndCell c 2) 0 ∅ 0
        ∗ wFly m c 0 ∗ held (xOwn c) c (xstg m ρ c) ∗ outbox c 0 ∗ inbox c 0
        ∗ ((debt c 0 ∗ outbox c 2 ∗ (holds (wvS 0) c (wgot m c 0) ∗ wBack m c 0) ∗ held (xOwn c) c (xstg m ρ c) ∗ gone m ρ c 0
            ∗ (semVal (rcvCell c 0) 0 ∗ came m ρ c 0)) -∗ Q (acc1 m ρ c)))
      ⊢ runs c (K6 (F := F) c a b) Q := by
  unfold K6 acc1
  simp only [k0_part6_eq_skeleton]; unfold k0_part6_skel
  simp only [Prog.lift, Prog.bind_op, Prog.bind_ret, Prog.pure_eq_ret]
  iintro ⟨#HR, HO, Hp, Hm, Hats, Hw, Hx, Hob, Hib, Hk⟩
  ihave HO := (debt_last c) $$ HO
  iapply (post m ρ c K 2 _ (dev6_eq c) 0) $$ [Hm Hp HO Hats]
  · isplitr; · iexact HR
    isplitl [Hm]; · iexact Hm
    isplitl [Hp]; · iexact Hp
    isplitl [HO] <;> iassumption
  iintro ⟨Hob2, HO⟩
  iapply (arriveW m c 0) $$ [Hw HO]
  · isplitl [Hw] <;> iassumption
  iintro ⟨Hw, Hwb, HO⟩
  iapply (step_loadX m ρ c) $$ Hx; iintro Hx
  iapply (step_loadW c 0 (wgot m c 0)) $$ Hw; iintro Hw
  iapply (left m ρ c K 0 (cmS 0) (xSrc c 0) rfl) $$ [Hob HO]
  · isplitr; · iexact HR
    isplitl [Hob] <;> iassumption
  iintro ⟨HO, Hg⟩
  iapply (landed m ρ c K 0 (xSrc c 0) (cmS 0) rfl) $$ [Hib HO]
  · isplitr; · iexact HR
    isplitl [Hib] <;> iassumption
  iintro ⟨HO, Hrc⟩
  iapply (runs_ret c)
  iapply Hk
  isplitl [HO]; · iexact HO
  isplitl [Hob2]; · iexact Hob2
  isplitl [Hw Hwb]
  · isplitl [Hw] <;> iassumption
  isplitl [Hx]; · iexact Hx
  isplitl [Hg] <;> iassumption

/-- The second weights on the first arrival, and the third copy's two ends. -/
theorem part7 (Q : _ → sProp (MT nD τ sig Unit (Elt F) ℕ UU ℕ)) (a : BitVec 32) :
    iprop(records m ρ K ∗ debt c 0 ∗ wFly m c 1 ∗ came m ρ c 0 ∗ outbox c 2 ∗ inbox c 2
        ∗ ((debt c 0 ∗ (holds (wvS 1) c (wgot m c 1) ∗ wBack m c 1) ∗ came m ρ c 0 ∗ gone m ρ c 2
            ∗ (semVal (rcvCell c 2) 0 ∗ came m ρ c 2)) -∗ Q (acc2 m ρ c)))
      ⊢ runs c (K7 (F := F) c a (acc1 m ρ c)) Q := by
  unfold K7 acc2
  simp only [k0_part7_eq_skeleton]; unfold k0_part7_skel
  simp only [Prog.lift, Prog.bind_op, Prog.bind_ret, Prog.pure_eq_ret]
  iintro ⟨#HR, HO, Hw, Hcm, Hob, Hib, Hk⟩
  iapply (arriveW m c 1) $$ [Hw HO]
  · isplitl [Hw] <;> iassumption
  iintro ⟨Hw, Hwb, HO⟩
  unfold came
  iapply (step_loadC c 0 (got m ρ c 0)) $$ Hcm; iintro Hcm
  iapply (step_loadW c 1 (wgot m c 1)) $$ Hw; iintro Hw
  iapply (left m ρ c K 2 (cmS 2) (xSrc c 2) rfl) $$ [Hob HO]
  · isplitr; · iexact HR
    isplitl [Hob] <;> iassumption
  iintro ⟨HO, Hg⟩
  iapply (landed m ρ c K 2 (xSrc c 2) (cmS 2) rfl) $$ [Hib HO]
  · isplitr; · iexact HR
    isplitl [Hib] <;> iassumption
  unfold came
  iintro ⟨HO, Hrc⟩
  iapply (runs_ret c)
  iapply Hk
  isplitl [HO]; · iexact HO
  isplitl [Hw Hwb]
  · isplitl [Hw] <;> iassumption
  isplitl [Hcm]; · iexact Hcm
  isplitl [Hg] <;> iassumption

/-- The third weights on the third arrival, the second copy's two ends, and the last weights. -/
theorem part8 (Q : _ → sProp (MT nD τ sig Unit (Elt F) ℕ UU ℕ)) (a : BitVec 32) :
    iprop(records m ρ K ∗ debt c 0 ∗ wFly m c 2 ∗ wFly m c 3 ∗ came m ρ c 2 ∗ outbox c 1 ∗ inbox c 1
        ∗ ((debt c 0 ∗ (holds (wvS 2) c (wgot m c 2) ∗ wBack m c 2) ∗ (holds (wvS 3) c (wgot m c 3) ∗ wBack m c 3) ∗ came m ρ c 2 ∗ gone m ρ c 1
            ∗ (semVal (rcvCell c 1) 0 ∗ came m ρ c 1))
          -∗ Q ⟨acc3 m ρ c, k0_pay4 (acc2 m ρ c) (cLift (got m ρ c 2)) (wLift (wgot m c 2)), cLift (got m ρ c 1)⟩))
      ⊢ runs c (K8 (F := F) c a (acc2 m ρ c)) Q := by
  unfold K8 acc3
  simp only [k0_part8_eq_skeleton]; unfold k0_part8_skel
  simp only [Prog.lift, Prog.bind_op, Prog.bind_ret, Prog.pure_eq_ret]
  iintro ⟨#HR, HO, Hw, Hw3, Hcm, Hob, Hib, Hk⟩
  iapply (arriveW m c 2) $$ [Hw HO]
  · isplitl [Hw] <;> iassumption
  iintro ⟨Hw, Hwb, HO⟩
  unfold came
  iapply (step_loadC c 2 (got m ρ c 2)) $$ Hcm; iintro Hcm
  iapply (step_loadW c 2 (wgot m c 2)) $$ Hw; iintro Hw
  iapply (left m ρ c K 1 (cmS 1) (xSrc c 1) rfl) $$ [Hob HO]
  · isplitr; · iexact HR
    isplitl [Hob] <;> iassumption
  iintro ⟨HO, Hg⟩
  iapply (landed m ρ c K 1 (xSrc c 1) (cmS 1) rfl) $$ [Hib HO]
  · isplitr; · iexact HR
    isplitl [Hib] <;> iassumption
  unfold came
  iintro ⟨HO, Hz, Hc1⟩
  iapply (arriveW m c 3) $$ [Hw3 HO]
  · isplitl [Hw3] <;> iassumption
  iintro ⟨Hw3, Hwb3, HO⟩
  iapply (step_loadC c 1 (got m ρ c 1)) $$ Hc1; iintro Hc1
  iapply (runs_ret c)
  iapply Hk
  isplitl [HO]; · iexact HO
  isplitl [Hw Hwb]
  · isplitl [Hw] <;> iassumption
  isplitl [Hw3 Hwb3]
  · isplitl [Hw3] <;> iassumption
  isplitl [Hcm]; · iexact Hcm
  isplitl [Hg]; · iexact Hg
  isplitl [Hz] <;> iassumption

/-- A column half of the tile going out. -/
def oFly (h : Fin 2) (fy : Buf (Elt F) (yvM.view.loc (c : Thread nD τ))) : sProp 𝕄 := copying c (yH h) (oH h) (oS h) fy (half m ρ c h)

/-- A half held at contents that read as `half`, copied out. -/
theorem fetchO (h : Fin 2) {α : Type} {Q : α → sProp (MT nD τ sig Unit (Elt F) ℕ UU ℕ)}
    {hsrc : (yH h).view.WordExact} {hdst : (oH h).view.WordExact} {hsem : DmaTarget.Typed (nD := nD) (τ := τ) (p := .tc) .vmem (.dma (oS h)) (.here (oH h))}
    {kt : PUnit → Prog (TpuEff nD τ sig (Elt F) Λ₀ .tc) α} :
    iprop(holds (yH h) c (half m ρ c h) ∗ (∃ f, held (oH h) c f) ∗ semVal ((c : Thread nD τ), SemLoc.dma (oS h)) 0)
      ⊢ iprop(((∃ fy, oFly m ρ c h fy) -∗ runs c (kt ⟨⟩) Q) -∗ runs c (.op (.enqueueDma (yH h) (.here (oH h)) (.dma (oS h)) hsrc hdst hsem) kt) Q) := by
  unfold oFly
  iintro ⟨⟨%fy, %hfy, Hy⟩, ⟨%f, Ho⟩, Hv⟩ Hk
  iapply (step_copy c (yH h) (oH h) (oS h) fy f (half m ρ c h) hfy (View.dmaCredit_pos _ (by decide))) $$ [Hy Ho Hv]
  · isplitl [Hy]; · iexact Hy
    isplitl [Ho] <;> iassumption
  iintro H
  iapply Hk
  iexists fy; iexact H

theorem arriveO (h : Fin 2) {α : Type} {Q : α → sProp (MT nD τ sig Unit (Elt F) ℕ UU ℕ)}
    {hsrc : (yH h).view.WordExact} {hdst : (oH h).view.WordExact} {kt : PUnit → Prog (TpuEff nD τ sig (Elt F) Λ₀ .tc) α} :
    iprop((∃ fy, oFly m ρ c h fy) ∗ debt c 0)
      ⊢ iprop(((holds (oH h) c (half m ρ c h) ∗ (∃ f, held (yH h) c f) ∗ semVal ((c : Thread nD τ), SemLoc.dma (oS h)) 0 ∗ debt c 0) -∗ runs c (kt ⟨⟩) Q)
      -∗ runs c (.op (.waitDma2 (oS h) (yH h) (oH h) hsrc hdst) kt) Q) := by
  unfold oFly
  iintro ⟨⟨%fy, Hf⟩, HO⟩ Hk
  iapply (step_arrive c (yH h) (oH h) (oS h) fy (half m ρ c h)) $$ [Hf HO]
  · isplitl [Hf] <;> iassumption
  iintro ⟨Ho, Hy, Hv, HO⟩
  iapply Hk
  isplitl [Ho]; · iexact Ho
  isplitl [Hy]; · iexists fy; iexact Hy
  isplitl [Hv] <;> iassumption

/-- The last block on both column halves; the first half on its way out. -/
theorem part9 (Q : _ → sProp (MT nD τ sig Unit (Elt F) ℕ UU ℕ)) :
    iprop(holds (wvS 3) c (wgot m c 3) ∗ came m ρ c 1 ∗ (∃ f, held (yH 0) c f) ∗ (∃ f, held (yH 1) c f)
        ∗ (∃ f, held (oH 0) c f) ∗ semVal ((c : Thread nD τ), SemLoc.dma (oS 0)) 0
        ∗ ((holds (wvS 3) c (wgot m c 3) ∗ came m ρ c 1 ∗ (∃ fy, oFly m ρ c 0 fy) ∗ holds (yH 1) c (half m ρ c 1)) -∗ Q ⟨⟩))
      ⊢ runs c (K9 (F := F) (acc3 m ρ c) (k0_pay4 (acc2 m ρ c) (cLift (got m ρ c 2)) (wLift (wgot m c 2))) (cLift (got m ρ c 1))) Q := by
  unfold K9
  simp only [k0_part9_eq_skeleton]; unfold k0_part9_skel
  simp only [Prog.lift, Prog.bind_op, Prog.bind_ret, Prog.pure_eq_ret]
  unfold came
  iintro ⟨Hw, Hcm, ⟨%f0, Hy0⟩, ⟨%f1, Hy1⟩, Ho, Hz, Hk⟩
  iapply (step_loadW c 3 (wgot m c 3)) $$ Hw; iintro Hw
  iapply (step_loadY c 0 f0) $$ Hy0; iintro Hy0
  iapply (step_store c 0 f0) $$ Hy0; iintro Hy0
  iapply (fetchO m ρ c 0) $$ [Hy0 Ho Hz]
  · isplitl [Hy0]; · iexact Hy0
    isplitl [Ho] <;> iassumption
  iintro Hf
  iapply (step_loadC c 1 (got m ρ c 1)) $$ Hcm; iintro Hcm
  iapply (step_loadW c 3 (wgot m c 3)) $$ Hw; iintro Hw
  iapply (step_loadY c 1 f1) $$ Hy1; iintro Hy1
  iapply (step_store c 1 f1) $$ Hy1; iintro Hy1
  iapply (runs_ret c)
  iapply Hk
  isplitl [Hw]; · iexact Hw
  isplitl [Hcm]; · iexact Hcm
  isplitl [Hf]; · iexact Hf
  iexact Hy1

end Cert.Exchange

end
-- ==== Proof.Whole.lean ====
/-
# Whole buffers and their pieces

A buffer held whole is its pieces held, and the pieces join again: at known contents where they still hold them, else
at some contents; the output's two halves join to contents each half is known of.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (c : Dev nD)

omit [FloatOps F] in
theorem four {M : Type} [URA M] (Φ : Fin 4 → sProp M) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl
omit [FloatOps F] in
theorem three {M : Type} [URA M] (Φ : Fin 3 → sProp M) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl
omit [FloatOps F] in
theorem two {M : Type} [URA M] (Φ : Fin 2 → sProp M) : bigSep Finset.univ Φ = iprop(Φ 0 ∗ Φ 1) := by
  rw [bigSep_univ_eq_bigSepL [0, 1] (by decide) (by decide), bigSepL_cons_cons, bigSepL_singleton]
  rfl

omit [FloatOps F] in
theorem x_pieces (f : Buf (Elt F) ((c : Thread nD τ).loc cc0_stg0_0)) :
    (((c : Thread nD τ).loc cc0_stg0_0) ↦{fullShare} f : sProp 𝕄)
      = iprop(held (xOwn c) c f ∗ held (xSrc c 0) c f ∗ held (xSrc c 1) c f ∗ held (xSrc c 2) c f) := by
  unfold held
  rw [xOwn_set, xSrc_set, xSrc_set, xSrc_set]
  exact (Ring.pointsTo_blocks (ℓ := (c : Thread nD τ).loc cc0_stg0_0) (fun k => (xRect c k).set) (xRect_disjoint c) (xRect_cover c) f).trans (four _)

omit [FloatOps F] in
theorem w_pieces (f : Buf (Elt F) ((c : Thread nD τ).loc main_arg1)) :
    (((c : Thread nD τ).loc main_arg1) ↦{fullShare} f : sProp 𝕄)
      = iprop(held (wSrc c 0) c f ∗ held (wSrc c 1) c f ∗ held (wSrc c 2) c f ∗ held (wSrc c 3) c f) := by
  unfold held
  rw [wSrc_set, wSrc_set, wSrc_set, wSrc_set]
  exact (Ring.pointsTo_blocks (ℓ := (c : Thread nD τ).loc main_arg1) (fun k => (wRect c k).set) (wRect_disjoint c) (wRect_cover c) f).trans (four _)

omit [FloatOps F] in
theorem wv_pieces (f : Buf (Elt F) ((c : Thread nD τ).loc cc0_scratch0)) :
    (((c : Thread nD τ).loc cc0_scratch0) ↦{fullShare} f : sProp 𝕄)
      = iprop(held (wvS 0) c f ∗ held (wvS 1) c f ∗ held (wvS 2) c f ∗ held (wvS 3) c f) := by
  unfold held
  rw [wvS_set, wvS_set, wvS_set, wvS_set]
  exact (Ring.pointsTo_blocks (ℓ := (c : Thread nD τ).loc cc0_scratch0) (fun k => (wvR k).set) wvR_disjoint wvR_cover f).trans (four _)

omit [FloatOps F] in
theorem cm_pieces (f : Buf (Elt F) ((c : Thread nD τ).loc cc0_scratch1)) :
    (((c : Thread nD τ).loc cc0_scratch1) ↦{fullShare} f : sProp 𝕄)
      = iprop(held (cmS 0) c f ∗ held (cmS 1) c f ∗ held (cmS 2) c f) := by
  unfold held
  rw [cmS_set, cmS_set, cmS_set]
  exact (Ring.pointsTo_blocks (ℓ := (c : Thread nD τ).loc cc0_scratch1) (fun k => (cmR k).set) cmR_disjoint cmR_cover f).trans (three _)

omit [FloatOps F] in
theorem yv_pieces (f : Buf (Elt F) ((c : Thread nD τ).loc cc0_scratch2)) :
    (((c : Thread nD τ).loc cc0_scratch2) ↦{fullShare} f : sProp 𝕄) = iprop(held (yH 0) c f ∗ held (yH 1) c f) := by
  unfold held
  rw [yH_set, yH_set]
  exact (Ring.pointsTo_blocks (ℓ := (c : Thread nD τ).loc cc0_scratch2) (fun k => (hR k).set) hR_disjoint hR_cover f).trans (two _)

omit [FloatOps F] in
theorem o_pieces (f : Buf (Elt F) ((c : Thread nD τ).loc main_v1)) :
    (((c : Thread nD τ).loc main_v1) ↦{fullShare} f : sProp 𝕄) = iprop(held (oH 0) c f ∗ held (oH 1) c f) := by
  unfold held
  rw [oH_set, oH_set]
  exact (Ring.pointsTo_blocks (ℓ := (c : Thread nD τ).loc main_v1) (fun k => (hR k).set) hR_disjoint hR_cover f).trans (two _)

omit [FloatOps F] in
theorem wv_join : iprop((∃ f, held (wvS 0) c f) ∗ (∃ f, held (wvS 1) c f) ∗ (∃ f, held (wvS 2) c f) ∗ (∃ f, held (wvS 3) c f))
    ⊢ (iprop(∃ g : Buf (Elt F) ((c : Thread nD τ).loc cc0_scratch0), ((c : Thread nD τ).loc cc0_scratch0) ↦{fullShare} g) : sProp 𝕄) := by
  unfold held
  rw [wvS_set, wvS_set, wvS_set, wvS_set]
  iintro ⟨⟨%f, H0⟩, H⟩
  iapply (Ring.pointsTo_blocks_join_exists (ℓ := (c : Thread nD τ).loc cc0_scratch0) (fun k => (wvR k).set) wvR_disjoint wvR_cover f)
  rw [four]
  isplitl [H0]; · iexists f; iexact H0
  iexact H

omit [FloatOps F] in
theorem cm_join : iprop((∃ f, held (cmS 0) c f) ∗ (∃ f, held (cmS 1) c f) ∗ (∃ f, held (cmS 2) c f))
    ⊢ (iprop(∃ g : Buf (Elt F) ((c : Thread nD τ).loc cc0_scratch1), ((c : Thread nD τ).loc cc0_scratch1) ↦{fullShare} g) : sProp 𝕄) := by
  unfold held
  rw [cmS_set, cmS_set, cmS_set]
  iintro ⟨⟨%f, H0⟩, H⟩
  iapply (Ring.pointsTo_blocks_join_exists (ℓ := (c : Thread nD τ).loc cc0_scratch1) (fun k => (cmR k).set) cmR_disjoint cmR_cover f)
  rw [three]
  isplitl [H0]; · iexists f; iexact H0
  iexact H

omit [FloatOps F] in
theorem yv_join : iprop((∃ f, held (yH 0) c f) ∗ (∃ f, held (yH 1) c f))
    ⊢ (iprop(∃ g : Buf (Elt F) ((c : Thread nD τ).loc cc0_scratch2), ((c : Thread nD τ).loc cc0_scratch2) ↦{fullShare} g) : sProp 𝕄) := by
  unfold held
  rw [yH_set, yH_set]
  iintro ⟨⟨%f, H0⟩, H⟩
  iapply (Ring.pointsTo_blocks_join_exists (ℓ := (c : Thread nD τ).loc cc0_scratch2) (fun k => (hR k).set) hR_disjoint hR_cover f)
  rw [two]
  isplitl [H0]; · iexists f; iexact H0
  iexact H

omit [FloatOps F] in
/-- What the output reads on a half depends on its contents on that half only. -/
theorem oH_read_congr (h : Fin 2) (f g : Buf (Elt F) ((c : Thread nD τ).loc main_v1)) (e : ∀ i ∈ (hR h).set, g i = f i) :
    (oH h).view.read (Elt F) g = (oH h).view.read (Elt F) f := by
  funext x
  have hx : (oH h).view.emb x ∈ (hR h).set := by rw [← oH_set]; exact View.emb_mem_set _ x
  show _root_.cast _ (g ((oH h).view.emb x)) = _root_.cast _ (f ((oH h).view.emb x))
  exact congrArg _ (e _ hx)

omit [FloatOps F] in
theorem o_join (v : Fin 2 → S256x512.Idx → Elt F .bf16) : iprop(holds (oH 0) c (v 0) ∗ holds (oH 1) c (v 1))
    ⊢ (iprop(∃ g : Buf (Elt F) ((c : Thread nD τ).loc main_v1), ⌜∀ h, (oH h).view.read (Elt F) g = v h⌝ ∗ ((c : Thread nD τ).loc main_v1) ↦{fullShare} g) : sProp 𝕄) := by
  unfold holds held
  rw [oH_set, oH_set]
  iintro ⟨⟨%f0, %h0, H0⟩, ⟨%f1, %h1, H1⟩⟩
  ihave H := (pointsTo_biUnion_join (ℓ := (c : Thread nD τ).loc main_v1) (q := fullShare) Finset.univ (fun k => (hR k).set) (fun k : Fin 2 => if k = 0 then f0 else f1) f0
    (fun b _ b' _ h => hR_disjoint b b' h)) $$ [H0 H1]
  · rw [two]
    isplitl [H0]; · iexact H0
    iexact H1
  rw [hR_cover]
  icases H with ⟨%g, %hg, H⟩
  iexists g
  isplitr; swap; · iexact H
  ipureintro
  intro h
  fin_cases h
  · exact (oH_read_congr c 0 f0 g fun i hi => hg 0 (Finset.mem_univ _) i hi).trans h0
  · exact (oH_read_congr c 1 f1 g fun i hi => hg 1 (Finset.mem_univ _) i hi).trans h1

end Cert.Exchange

end
-- ==== Proof.Kernel.lean ====
/-
# The whole body

The parts in order, from a device's whole buffers and its share of the exchange to its whole buffers again, the output's
halves read as computed and every cell of the exchange at rest.
-/
module

public import proofs.«01_k».proof.Proof.Whole

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem seven {M : Type} [URA M] (Φ : CK → sProp M) : bigSep Finset.univ Φ
    = iprop(Φ none ∗ Φ (some (false, 0)) ∗ Φ (some (false, 1)) ∗ Φ (some (false, 2)) ∗ Φ (some (true, 0)) ∗ Φ (some (true, 1)) ∗ Φ (some (true, 2))) := by
  rw [bigSep_univ_eq_bigSepL allCK allCK_univ allCK_nodup]
  unfold allCK
  rw [bigSepL_cons_cons, bigSepL_cons_cons, bigSepL_cons_cons, bigSepL_cons_cons, bigSepL_cons_cons, bigSepL_cons_cons, bigSepL_singleton]
  rfl

/-- The tokens of the duties device `c` pays: a unit at each other barrier, its own send cells, the receive cells of the slots it fills. -/
def pays (c : Dev nD) : sProp 𝕄 :=
  iprop((bigSep Finset.univ fun s : Fin 3 => dutyTok ER (barCell (ahead c s)) 0 s.rev)
    ∗ (bigSep Finset.univ fun s : Fin 3 => dutyTok ER (sndCell c s) 0 0)
    ∗ (bigSep Finset.univ fun s : Fin 3 => dutyTok ER (rcvCell (ahead c s) s) 0 0))
/-- Its positions, each at the start of its cell's round. -/
def stands (c : Dev nD) : sProp 𝕄 := bigSep Finset.univ fun k : CK => atPos ER (cell c k) 0 ∅ 0
/-- What the others owe it. -/
def due (c : Dev nD) : sProp 𝕄 :=
  iprop(cred (tallyAt (barCell c) () 3) ∗ bigSep Finset.univ fun s : Fin 3 => cred (tallyAt (rcvCell c s) () blkN))
/-- Its cells for copies within the device, at rest. -/
def locals (c : Dev nD) : sProp 𝕄 :=
  iprop((bigSep Finset.univ fun k : Fin 4 => semVal ((c : Thread nD τ), SemLoc.dma (wS k)) 0)
    ∗ (bigSep Finset.univ fun h : Fin 2 => semVal ((c : Thread nD τ), SemLoc.dma (oS h)) 0))
/-- Its cells of the exchange, at rest. -/
def atRest (c : Dev nD) : sProp 𝕄 := bigSep Finset.univ fun k : CK => semVal (cell c k) 0
/-- Its scratch, at any contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))
/-- The weights as at launch. -/
def weights (c : Dev nD) : sProp 𝕄 := iprop(((c : Thread nD τ).loc main_arg1) ↦{fullShare} m ((c : Thread nD τ).loc main_arg1))
/-- The output, its halves read as computed. -/
def result (c : Dev nD) : sProp 𝕄 :=
  iprop(∃ g : Buf (Elt F) ((c : Thread nD τ).loc main_v1), ⌜∀ h, (oH h).view.read (Elt F) g = half m ρ c h⌝ ∗ ((c : Thread nD τ).loc main_v1) ↦{fullShare} g)
/-- The staged columns of `x`. -/
def staged (c : Dev nD) : sProp 𝕄 := iprop(((c : Thread nD τ).loc cc0_stg0_0) ↦{fullShare} xstg m ρ c)

/-- What the body leaves. -/
def finish (c : Dev nD) : sProp 𝕄 :=
  iprop(atRest c ∗ locals c ∗ debt c 0 ∗ staged m ρ c ∗ weights m c ∗ result m ρ c ∗ scratch c)

omit [FloatOps F] in
theorem holds_held {sp : Space} {S : Shape} {e : EltTy} (M : Memref sig .tc sp S e) (c : Dev nD) (v : S.Idx → Elt F e) :
    holds M c v ⊢ (iprop(∃ f, held M c f) : sProp 𝕄) := by
  iintro ⟨%f, -, H⟩; iexists f; iexact H

/-- The body as the launch calls it. -/
abbrev K0 := cc0_body (F := F) xM (Memref.isWhole_whole _) wM (Memref.isWhole_whole _) oM (Memref.isWhole_whole _)
  wvM (Memref.isWhole_whole _) cmM (Memref.isWhole_whole _) yvM (Memref.isWhole_whole _) cc0_scratch3 cc0_scratch4 cc0_scratch5 cc0_scratch6

variable (c : Dev nD) (K : Dev nD × CK → ℕ)

theorem runs_bind {α β : Type} (p : Prog (TpuEff nD τ sig (Elt F) Λ₀ .tc) α) (k : α → Prog (TpuEff nD τ sig (Elt F) Λ₀ .tc) β)
    {Q : β → sProp (MT nD τ sig Unit (Elt F) ℕ UU ℕ)} :
    runs c p (fun a => runs c (k a) Q) ⊢ runs c (p >>= k) Q :=
  Entails.of_eq (wp_bind _ _ _ p k Q).symm

set_option maxHeartbeats 1600000 in
theorem body_run (Q : PUnit → sProp (MT nD τ sig Unit (Elt F) ℕ UU ℕ)) :
    iprop(records m ρ K ∗ levAts L lv ∗ debt c (O₀ c) ∗ pays c ∗ stands c ∗ due c ∗ locals c ∗ staged m ρ c ∗ weights m c
        ∗ (∃ f, ((c : Thread nD τ).loc main_v1) ↦{fullShare} f) ∗ scratch c ∗ (finish m ρ c -∗ Q ⟨⟩))
      ⊢ runs c (K0 (F := F)) Q := by
  unfold K0
  rw [cc0_body_eq_skeleton]; unfold cc0_body_skel
  unfold pays stands due locals staged weights scratch
  rw [seven, three, three, three, three, four, two, x_pieces, w_pieces]
  iintro ⟨#Hrec, #Hlev, HO, ⟨⟨Tb0, Tb1, Tb2⟩, ⟨Ts0, Ts1, Ts2⟩, ⟨Tr0, Tr1, Tr2⟩⟩, ⟨Ab, As0, As1, As2, Ar0, Ar1, Ar2⟩, ⟨Cb, Cr0, Cr1, Cr2⟩,
    ⟨⟨Vw0, Vw1, Vw2, Vw3⟩, ⟨Vo0, Vo1⟩⟩, ⟨X, X0, X1, X2⟩, ⟨W0, W1, W2, W3⟩, ⟨%fo, Ho⟩, ⟨⟨%f0, Hwv⟩, ⟨%f1, Hcm⟩, ⟨%f2, Hyv⟩⟩, Hk⟩
  ihave Hwv := (Entails.of_eq (wv_pieces c f0)) $$ Hwv
  icases Hwv with ⟨B0, B1, B2, B3⟩
  ihave Hcm := (Entails.of_eq (cm_pieces c f1)) $$ Hcm
  icases Hcm with ⟨S0, S1, S2⟩
  ihave Hyv := (Entails.of_eq (yv_pieces c f2)) $$ Hyv
  icases Hyv with ⟨Y0, Y1⟩
  ihave Ho := (Entails.of_eq (o_pieces c fo)) $$ Ho
  icases Ho with ⟨Z0, Z1⟩
  iapply (runs_bind c _ _)
  iapply (part1 m c _)
  isplitl [W0 B0 Vw0]
  · unfold wIdle
    isplitl [W0]; · iexact W0
    isplitl [B0]; · iexists f0; iexact B0
    iexact Vw0
  isplitl [W1 B1 Vw1]
  · unfold wIdle
    isplitl [W1]; · iexact W1
    isplitl [B1]; · iexists f0; iexact B1
    iexact Vw1
  iintro %r %hr ⟨W0, W1⟩
  obtain ⟨d0, v2, v28, v29, v30⟩ := r
  dsimp only at hr ⊢
  subst hr
  iapply (runs_bind d0 _ _)
  iapply (part2 m d0 _ v2 v28 v29 v30)
  isplitl [W2 B2 Vw2]
  · unfold wIdle
    isplitl [W2]; · iexact W2
    isplitl [B2]; · iexists f0; iexact B2
    iexact Vw2
  isplitl [W3 B3 Vw3]
  · unfold wIdle
    isplitl [W3]; · iexact W3
    isplitl [B3]; · iexists f0; iexact B3
    iexact Vw3
  iintro %r %hr ⟨W2, W3⟩
  obtain ⟨v60, v61, v63⟩ := r
  dsimp only at hr ⊢
  subst hr
  iapply (runs_bind d0 _ _)
  iapply (part3 m ρ d0 K _ v2 v61 v63)
  isplitr; · iexact Hrec
  isplitl [HO]; · iexact HO
  isplitl [Tb0 S2]
  · unfold slot
    isplitl [Tb0]; · iexact Tb0
    iexists f1; iexact S2
  isplitl [Tb1 S1]
  · unfold slot
    isplitl [Tb1]; · iexact Tb1
    iexists f1; iexact S1
  iintro %v97 HO
  iapply (runs_bind d0 _ _)
  iapply (part4 m ρ d0 K _ v2 v97)
  isplitr; · iexact Hrec
  isplitr; · iexact Hlev
  isplitl [HO]; · iexact HO
  isplitl [Tb2 S0]
  · unfold slot
    isplitl [Tb2]; · iexact Tb2
    iexists f1; iexact S0
  isplitl [Cb]; · iexact Cb
  isplitl [Ab]; · iexact Ab
  isplitl [X0 Ts0 Tr0]
  · unfold mail
    isplitl [X0]; · iexact X0
    isplitl [Ts0] <;> iassumption
  isplitl [As0]; · iexact As0
  iintro %r ⟨HO, Vb, P0, Q1, Q2⟩
  obtain ⟨v110, v123, v124, v125, v126, v127⟩ := r
  dsimp only
  iapply (runs_bind d0 _ _)
  iapply (part5 m ρ d0 K _ v2 v123 v124 v125 v126 v127)
  isplitr; · iexact Hrec
  isplitl [HO]; · iexact HO
  isplitl [Q1]; · iexact Q1
  isplitl [X1 Ts1 Tr1]
  · unfold mail
    isplitl [X1]; · iexact X1
    isplitl [Ts1] <;> iassumption
  isplitl [As1]; · iexact As1
  iintro %r ⟨HO, P1⟩
  obtain ⟨v131, v152⟩ := r
  dsimp only
  iapply (runs_bind d0 _ _)
  iapply (part6 m ρ d0 K _ v2 v110)
  isplitr; · iexact Hrec
  isplitl [HO]; · iexact HO
  isplitl [Q2]; · iexact Q2
  isplitl [X2 Ts2 Tr2]
  · unfold mail
    isplitl [X2]; · iexact X2
    isplitl [Ts2] <;> iassumption
  isplitl [As2]; · iexact As2
  isplitl [W0]; · iexact W0
  isplitl [X]; · iexact X
  isplitl [P0]; · iexact P0
  isplitl [Cr0 Ar0]
  · unfold inbox
    isplitl [Cr0] <;> iassumption
  iintro ⟨HO, P2, ⟨B0, W0⟩, X, G0, ⟨R0, M0⟩⟩
  iapply (runs_bind d0 _ _)
  iapply (part7 m ρ d0 K _ v152)
  isplitr; · iexact Hrec
  isplitl [HO]; · iexact HO
  isplitl [W1]; · iexact W1
  isplitl [M0]; · iexact M0
  isplitl [P2]; · iexact P2
  isplitl [Cr2 Ar2]
  · unfold inbox
    isplitl [Cr2] <;> iassumption
  iintro ⟨HO, ⟨B1, W1⟩, M0, G2, ⟨R2, M2⟩⟩
  iapply (runs_bind d0 _ _)
  iapply (part8 m ρ d0 K _ v131)
  isplitr; · iexact Hrec
  isplitl [HO]; · iexact HO
  isplitl [W2]; · iexact W2
  isplitl [W3]; · iexact W3
  isplitl [M2]; · iexact M2
  isplitl [P1]; · iexact P1
  isplitl [Cr1 Ar1]
  · unfold inbox
    isplitl [Cr1] <;> iassumption
  iintro ⟨HO, ⟨B2, W2⟩, ⟨B3, W3⟩, M2, G1, ⟨R1, M1⟩⟩
  dsimp only
  iapply (runs_bind d0 _ _)
  iapply (part9 m ρ d0 _)
  isplitl [B3]; · iexact B3
  isplitl [M1]; · iexact M1
  isplitl [Y0]; · iexists f2; iexact Y0
  isplitl [Y1]; · iexists f2; iexact Y1
  isplitl [Z0]; · iexists fo; iexact Z0
  isplitl [Vo0]; · iexact Vo0
  iintro ⟨B3, M1, Fl0, Y1⟩
  simp only [Prog.lift, Prog.bind_op, Prog.bind_ret, Prog.pure_eq_ret]
  iapply (fetchO m ρ d0 1) $$ [Y1 Z1 Vo1]
  · isplitl [Y1]; · iexact Y1
    isplitl [Z1]; · iexists fo; iexact Z1
    iexact Vo1
  iintro Fl1
  iapply (arriveO m ρ d0 0) $$ [Fl0 HO]
  · isplitl [Fl0] <;> iassumption
  iintro ⟨Z0, Y0, Vo0, HO⟩
  iapply (arriveO m ρ d0 1) $$ [Fl1 HO]
  · isplitl [Fl1] <;> iassumption
  iintro ⟨Z1, Y1, Vo1, HO⟩
  iapply (runs_ret d0)
  iapply Hk
  unfold finish atRest locals staged weights result scratch gone came wBack
  icases G0 with ⟨G0, X0⟩
  icases G1 with ⟨G1, X1⟩
  icases G2 with ⟨G2, X2⟩
  icases W0 with ⟨W0, Vw0⟩
  icases W1 with ⟨W1, Vw1⟩
  icases W2 with ⟨W2, Vw2⟩
  icases W3 with ⟨W3, Vw3⟩
  rw [seven, four, two, x_pieces, w_pieces]
  isplitl [Vb G0 G1 G2 R0 R1 R2]
  · isplitl [Vb]; · iexact Vb
    isplitl [G0]; · iexact G0
    isplitl [G1]; · iexact G1
    isplitl [G2]; · iexact G2
    isplitl [R0]; · iexact R0
    isplitl [R1]; · iexact R1
    iexact R2
  isplitl [Vw0 Vw1 Vw2 Vw3 Vo0 Vo1]
  · isplitl [Vw0 Vw1 Vw2 Vw3]
    · isplitl [Vw0]; · iexact Vw0
      isplitl [Vw1]; · iexact Vw1
      isplitl [Vw2] <;> iassumption
    isplitl [Vo0] <;> iassumption
  isplitl [HO]; · iexact HO
  isplitl [X X0 X1 X2]
  · isplitl [X]; · iexact X
    isplitl [X0]; · iexact X0
    isplitl [X1] <;> iassumption
  isplitl [W0 W1 W2 W3]
  · isplitl [W0]; · iexact W0
    isplitl [W1]; · iexact W1
    isplitl [W2] <;> iassumption
  isplitl [Z0 Z1]
  · iapply (o_join d0 (half m ρ d0))
    isplitl [Z0] <;> iassumption
  isplitl [B0 B1 B2 B3]
  · iapply (wv_join d0)
    isplitl [B0]; · iapply (holds_held (wvS 0) d0 _); iexact B0
    isplitl [B1]; · iapply (holds_held (wvS 1) d0 _); iexact B1
    isplitl [B2]; · iapply (holds_held (wvS 2) d0 _); iexact B2
    iapply (holds_held (wvS 3) d0 _); iexact B3
  isplitl [M0 M1 M2]
  · iapply (cm_join d0)
    isplitl [M0]; · iapply (holds_held (cmS 0) d0 _); iexact M0
    isplitl [M1]; · iapply (holds_held (cmS 1) d0 _); iexact M1
    iapply (holds_held (cmS 2) d0 _); iexact M2
  iapply (yv_join d0)
  isplitl [Y0] <;> iassumption

end Cert.Exchange

end
-- ==== Proof.Run.lean ====
/-
# The launch

The body meets the pipeline's obligation; the exchange's cells are opened at launch and their tokens dealt around the
mesh; every device's run then ends with its weights as they were, its output's halves as computed, and every semaphore
at zero.
-/
module

public import proofs.«01_k».proof.Proof.Kernel
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What a device's body starts from, its scratch aside. -/
def start (c : Dev nD) : sProp 𝕄 :=
  iprop((∃ K, records m ρ K) ∗ levAts L lv ∗ pays c ∗ stands c ∗ due c ∗ locals c ∗ weights m c
    ∗ (∃ f, ((c : Thread nD τ).loc main_v1) ↦{fullShare} f))
def before (c : Dev nD) : sProp 𝕄 := iprop(start m ρ c ∗ scratch c)
def after (c : Dev nD) : sProp 𝕄 := iprop(atRest c ∗ locals c ∗ weights m c ∗ result m ρ c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
  Φ t := match t with
    | ⟨0, _⟩ => before m ρ c
    | ⟨_ + 1, _⟩ => after m ρ c
  q _ := fullShare
  owed t := match t with
    | ⟨0, _⟩ => O₀ c
    | ⟨_ + 1, _⟩ => 0

theorem fetch_x (t : Fin cfg0.N) : (cfg0.win (0 : Fin 1)).fetch t = true := by rw [fin_N0 t]; rfl

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer held at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(before m ρ c ∗ (dats m ρ 0 c).owesAt () (t0_0 : Fin cfg0.N).castSucc
    ∗ (∃ d, stg c cc0_stg0_0 ((dats m ρ 0 c).before (0 : Fin 1) t0_0 d)))
def bodyPost (c : Dev nD) : sProp 𝕄 :=
  iprop(after m ρ c ∗ (dats m ρ 0 c).owesAt () (t0_0 : Fin cfg0.N).succ ∗ stg c cc0_stg0_0 (xstg m ρ c))

theorem body_pipeline (c : Dev nD) : bodyPre m ρ c ⊢ runs c (K0 (F := F)) (fun _ => bodyPost m ρ c) := by
  unfold bodyPre before start
  iintro ⟨⟨⟨⟨%K, #Hrec⟩, #Hlev, Hp, Hst, Hd, Hl, Hw, Ho⟩, Hscr⟩, HO, ⟨%d, %g, %hg, Hx⟩⟩
  have hx : g = xstg m ρ c := by rw [hg]; unfold Dat.before; rw [if_pos (fetch_x t0_0)]; rfl
  subst hx
  unfold Dat.owesAt Pipeline.owesWithin
  icases HO with ⟨%W, %hW, HO⟩
  rw [show (dats m ρ 0 c).owed (t0_0 : Fin cfg0.N).castSucc = O₀ c from rfl]
  iapply (body_run m ρ c K _)
  isplitr; · iexact Hrec
  isplitr; · iexact Hlev
  isplitl [HO]
  · unfold debt; iexists W; iexact HO
  isplitl [Hp]; · iexact Hp
  isplitl [Hst]; · iexact Hst
  isplitl [Hd]; · iexact Hd
  isplitl [Hl]; · iexact Hl
  isplitl [Hx]; · unfold staged; iexact Hx
  isplitl [Hw]; · iexact Hw
  isplitl [Ho]; · iexact Ho
  isplitl [Hscr]; · iexact Hscr
  unfold finish bodyPost after debt staged Dat.owesAt Pipeline.owesWithin
  rw [show (dats m ρ 0 c).owed (t0_0 : Fin cfg0.N).succ = 0 from rfl]
  iintro ⟨Ha, Hl, ⟨%W', HO⟩, Hx, Hw, Hr, Hs⟩
  isplitl [Ha Hl Hw Hr Hs]
  · isplitl [Ha]; · iexact Ha
    isplitl [Hl]; · iexact Hl
    isplitl [Hw]; · iexact Hw
    isplitl [Hr] <;> iassumption
  isplitl [HO]
  · iexists W'; isplitr; · ipureintro; exact fun _ _ => Or.inl trivial
    iexact HO
  iexists (xstg m ρ c); isplitr; · (ipureintro; rfl)
  iexact Hx

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_stg]
  exact body_pipeline m ρ c

/-! ## The launch's cells and tokens -/

/-- The kernel's own semaphores: sends, receives, weight copies, output copies. -/
abbrev osem : Fin 12 → SemLoc sig
  | 0 => .dma (sndS 0) | 1 => .dma (sndS 1) | 2 => .dma (sndS 2) | 3 => .dma (rcvS 0) | 4 => .dma (rcvS 1) | 5 => .dma (rcvS 2)
  | 6 => .dma (wS 0) | 7 => .dma (wS 1) | 8 => .dma (wS 2) | 9 => .dma (wS 3) | 10 => .dma (oS 0) | 11 => .dma (oS 1)

theorem ownSemFacts : Pipeline.OwnSemFacts cfg0.spec osem := by decide

theorem share_full (c : Dev nD) (w : Fin cfg0.W) : (dats m ρ 0 c).share w = fullShare := by unfold Dat.share; split <;> rfl

omit [FloatOps F] in
theorem ownSems0_list (c : Dev nD) : (Pipeline.ownSems0 (Ix := Unit) (Name := ℕ) (U := UU) (Lvl := ℕ) (Val := Elt F) (τ := τ) osem c : sProp 𝕄)
    = iprop(semVal (sndCell c 0) 0 ∗ semVal (sndCell c 1) 0 ∗ semVal (sndCell c 2) 0 ∗ semVal (rcvCell c 0) 0 ∗ semVal (rcvCell c 1) 0 ∗ semVal (rcvCell c 2) 0
      ∗ semVal ((c : Thread nD τ), SemLoc.dma (wS 0)) 0 ∗ semVal ((c : Thread nD τ), SemLoc.dma (wS 1)) 0
      ∗ semVal ((c : Thread nD τ), SemLoc.dma (wS 2)) 0 ∗ semVal ((c : Thread nD τ), SemLoc.dma (wS 3)) 0
      ∗ semVal ((c : Thread nD τ), SemLoc.dma (oS 0)) 0 ∗ semVal ((c : Thread nD τ), SemLoc.dma (oS 1)) 0) := by
  rw [Pipeline.ownSems0_eq_of_list c osem [0, 1, 2, 3, 4, 5, 6, 7, 8, 9, 10, 11] (by decide) (by decide)]; rfl
omit [FloatOps F] in
theorem unscopedSems0_bar (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_in (c : Dev nD) :
    iprop(Pipeline.ownSems0 (Ix := Unit) (Name := ℕ) (U := UU) (Lvl := ℕ) (Val := Elt F) (τ := τ) osem c ∗ unscopedSems0 c)
      ⊢ (iprop(atRest c ∗ locals c) : sProp 𝕄) := by
  unfold atRest locals
  rw [ownSems0_list, unscopedSems0_bar, seven, four, two]
  iintro ⟨⟨A, B, C, D, E, G, H, I, J, K, M, N⟩, P⟩
  isplitl [A B C D E G P]
  · isplitl [P]; · iexact P
    isplitl [A]; · iexact A
    isplitl [B]; · iexact B
    isplitl [C]; · iexact C
    isplitl [D]; · iexact D
    isplitl [E] <;> iassumption
  isplitl [H I J K]
  · isplitl [H]; · iexact H
    isplitl [I]; · iexact I
    isplitl [J] <;> iassumption
  isplitl [M] <;> iassumption

omit [FloatOps F] in
theorem sems_out (c : Dev nD) : (iprop(atRest c ∗ locals c) : sProp 𝕄)
    ⊢ iprop(Pipeline.ownSems0 (Ix := Unit) (Name := ℕ) (U := UU) (Lvl := ℕ) (Val := Elt F) (τ := τ) osem c ∗ unscopedSems0 c) := by
  unfold atRest locals
  rw [ownSems0_list, unscopedSems0_bar, seven, four, two]
  iintro ⟨⟨P, A, B, C, D, E, G⟩, ⟨H, I, J, K⟩, M, N⟩
  isplitr [P]; swap; · iexact P
  isplitl [A]; · iexact A
  isplitl [B]; · iexact B
  isplitl [C]; · iexact C
  isplitl [D]; · iexact D
  isplitl [E]; · iexact E
  isplitl [G]; · iexact G
  isplitl [H]; · iexact H
  isplitl [I]; · iexact I
  isplitl [J]; · iexact J
  isplitl [K]; · iexact K
  isplitl [M] <;> iassumption

def cellAt (p : Dev nD × CK) : GSem nD τ sig := cell p.1 p.2
theorem cellAt_inj : Function.Injective cellAt := fun _ _ h => Prod.ext (cell_inj h).1 (cell_inj h).2
def theCells : Finset (GSem nD τ sig) := Finset.univ.map ⟨cellAt, cellAt_inj⟩

/-- The duties of a device's own cells: the barrier's three, a send cell's one, a receive cell's one. -/
def tag : Fin 3 × Fin 3 → CK × Fin 3
  | (0, s) => (none, s)
  | (1, s) => (some (false, s), 0)
  | (2, s) => (some (true, s), 0)
theorem tag_inj : Function.Injective tag := by decide
def duty (p : Dev nD × (Fin 3 × Fin 3)) : GSem nD τ sig × ℕ × Fin 3 := (cell p.1 (tag p.2).1, 0, (tag p.2).2)
theorem duty_inj : Function.Injective duty := fun p q h => by
  have h1 := cell_inj (congrArg (fun x : GSem nD τ sig × ℕ × Fin 3 => x.1) h)
  have h2 : (tag p.2).2 = (tag q.2).2 := congrArg (fun x : GSem nD τ sig × ℕ × Fin 3 => x.2.2) h
  exact Prod.ext h1.1 (tag_inj (Prod.ext h1.2 h2))
def theToks : Finset (GSem nD τ sig × ℕ × Fin 3) := Finset.univ.map ⟨duty, duty_inj⟩

/-- The launch's ghost element: the pipeline's, the exchange's, no counter. -/
def u₀ : UU := (initOf (Pipeline.cells cfgs cellOf_inj) (Pipeline.launchToks cfgs cellOf_inj), (initOf theCells theToks, 1))

/-- The tokens of a device's own cells. -/
def mints (c : Dev nD) : sProp 𝕄 :=
  iprop((bigSep Finset.univ fun s : Fin 3 => dutyTok ER (barCell c) 0 s)
    ∗ (bigSep Finset.univ fun s : Fin 3 => dutyTok ER (sndCell c s) 0 0)
    ∗ (bigSep Finset.univ fun s : Fin 3 => dutyTok ER (rcvCell c s) 0 0))

/-- What the launch deals a device, -/
def dealt (c : Dev nD) : sProp 𝕄 :=
  iprop((bigSep Finset.univ fun k : CK => roundState ER (Rd m ρ) (cell c k) 0)
    ∗ (bigSep Finset.univ fun k : CK => atPos ER (cell c k) 0 ∅ 0) ∗ (bigSep Finset.univ fun k : CK => reached ER (cell c k) 0) ∗ mints c)
/-- and what it has once the cells are open and the tokens gone around. -/
def opened (c : Dev nD) : sProp 𝕄 := iprop((∃ K, records m ρ K) ∗ pays c ∗ stands c ∗ locals c)

omit [FloatOps F] in
theorem mint : BI.own (ER (initOf theCells theToks)) ⊢ (|==> bigSep Finset.univ (dealt m ρ) : sProp 𝕄) := by
  have hX (Φ : GSem nD τ sig → sProp 𝕄) : bigSep theCells Φ = bigSep Finset.univ fun c : Dev nD => bigSep Finset.univ fun k : CK => Φ (cell c k) := by
    unfold theCells; rw [bigSep_map, bigSep_univ_prod]; rfl
  have hT : bigSep theToks (fun x => (dutyTok ER x.1 x.2.1 x.2.2 : sProp 𝕄)) = bigSep Finset.univ fun c : Dev nD => mints c := by
    unfold theToks; rw [bigSep_map, bigSep_univ_prod]
    exact bigSep_congr fun c _ => by rw [bigSep_univ_prod, three]; rfl
  iintro HX
  imod (Rounds.fund ER (Rd m ρ) theCells theToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat]; · iexact Hat
  isplitl [Hr]; · iexact Hr
  iexact Htok

omit [FloatOps F] in
/-- The tokens go around: a barrier's to the three who signal it, a receive cell's to the one who fills its slot. -/
theorem around : (bigSep Finset.univ fun c : Dev nD => (mints c : sProp 𝕄)) ⊢ bigSep Finset.univ fun c : Dev nD => pays c := by
  unfold mints pays
  simp only [three]
  simp only [bigSep_sep']
  rw [bigSep_univ_equiv (turn 2) (fun c : Dev nD => (dutyTok ER (barCell c) 0 0 : sProp 𝕄)),
    bigSep_univ_equiv (turn 1) (fun c : Dev nD => (dutyTok ER (barCell c) 0 1 : sProp 𝕄)),
    bigSep_univ_equiv (turn 0) (fun c : Dev nD => (dutyTok ER (barCell c) 0 2 : sProp 𝕄)),
    bigSep_univ_equiv (turn 0) (fun c : Dev nD => (dutyTok ER (rcvCell c 0) 0 0 : sProp 𝕄)),
    bigSep_univ_equiv (turn 1) (fun c : Dev nD => (dutyTok ER (rcvCell c 1) 0 0 : sProp 𝕄)),
    bigSep_univ_equiv (turn 2) (fun c : Dev nD => (dutyTok ER (rcvCell c 2) 0 0 : sProp 𝕄))]
  iintro ⟨⟨B0, B1, B2⟩, ⟨S0, S1, S2⟩, ⟨R0, R1, R2⟩⟩
  isplitl [B0 B1 B2]
  · isplitl [B2]; · iexact B2
    isplitl [B1]; · iexact B1
    iexact B0
  isplitl [S0 S1 S2]
  · isplitl [S0]; · iexact S0
    isplitl [S1] <;> iassumption
  isplitl [R0]; · iexact R0
  isplitl [R1]; · iexact R1
  iexact R2

omit [FloatOps F] in
/-- A device's cells opened. -/
theorem open_cells (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop(∃ κ : ℕ, cellInv ER (Rd m ρ) κ (cell c k)))
          ∗ (bigSep Finset.univ fun k : CK => reached ER (cell c k) 0) ∗ mints c ∗ stands c ∗ locals c) := by
  unfold dealt
  iintro ⟨Hos, Hus, Hst, Hat, Hr, Htok⟩
  ihave Hv := (sems_in (F := F) c) $$ [Hos Hus]
  · isplitl [Hos] <;> iassumption
  icases Hv with ⟨Hv, Hl⟩
  imod (show iprop(atRest c ∗ bigSep Finset.univ fun k : CK => roundState ER (Rd m ρ) (cell c k) 0)
      ⊢ (|={Set.univ}=> bigSep Finset.univ fun k => iprop(∃ κ : ℕ, cellInv ER (Rd m ρ) κ (cell c k)) : sProp 𝕄) from by
        unfold atRest
        rw [← bigSep_sep']
        exact (bigSep_mono fun k _ => (Rounds.body_intro ER (Rd m ρ) (cell c k)).trans inv_alloc).trans (bigSep_fupd _ _)) $$ [Hv Hst] with Hinv
  · isplitl [Hv] <;> iassumption
  imodintro
  isplitl [Hinv]; · iexact Hinv
  isplitl [Hr]; · iexact Hr
  isplitl [Htok]; · iexact Htok
  isplitl [Hat]; · unfold stands; iexact Hat
  iexact Hl

omit [FloatOps F] in
theorem share_out {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem gather :
    (bigSep Finset.univ fun c : Dev nD => iprop((bigSep Finset.univ fun k => iprop(∃ κ : ℕ, cellInv ER (Rd m ρ) κ (cell c k)))
          ∗ (bigSep Finset.univ fun k : CK => reached ER (cell c k) 0) ∗ mints c ∗ stands c ∗ locals c) : sProp 𝕄)
      ⊢ bigSep Finset.univ (opened m ρ) := by
  rw [bigSep_sep', bigSep_sep', bigSep_sep', bigSep_sep', ← bigSep_univ_prod (fun p : Dev nD × CK => iprop(∃ κ : ℕ, cellInv ER (Rd m ρ) κ (cell p.1 p.2))),
    ← bigSep_univ_prod (fun p : Dev nD × CK => (reached ER (cell p.1 p.2) 0 : sProp 𝕄))]
  iintro ⟨HI, #HR, Htok, Hat, Hl⟩
  ihave HK := (BI.bigSep_exists_pi Finset.univ (fun (p : Dev nD × CK) (κ : ℕ) => (cellInv ER (Rd m ρ) κ (cell p.1 p.2) : sProp 𝕄))) $$ HI
  icases HK with ⟨%K, #HI⟩
  ihave Htok := (around (F := F)) $$ Htok
  iapply (share_out (R := records m ρ K) (Φ := fun c => iprop(pays c ∗ stands c ∗ locals c)) fun c _ => show _ ⊢ opened m ρ c from by
    unfold opened
    iintro ⟨#HR, H⟩
    isplitr; · iexists K; iexact HR
    iexact H)
  isplitr
  · unfold records; isplitr; · iexact HI
    iexact HR
  rw [bigSep_sep', bigSep_sep']
  isplitl [Htok]; · iexact Htok
  isplitl [Hat] <;> iassumption

omit [FloatOps F] in
theorem open_all : (bigSep Finset.univ fun c => iprop(Pipeline.ownSems0 (Ix := Unit) (Name := ℕ) (U := UU) (Lvl := ℕ) (Val := Elt F) (τ := τ) osem c
      ∗ unscopedSems0 c ∗ dealt m ρ c) : sProp 𝕄)
    ⊢ |={Set.univ}=> bigSep Finset.univ (opened m ρ) :=
  ((bigSep_mono fun c _ => open_cells m ρ c).trans (bigSep_fupd _ _)).trans (BI.fupd_mono (gather m ρ))

/-! ## The credit a device is launched with -/

theorem ahead_iff (d c : Dev nD) (s : Fin 3) : ahead d s = c ↔ d = ahead c s.rev := by revert d c s; decide
theorem owe_bar_bar (d c : Dev nD) (s : Fin 3) : (oweBar d s) (barCell c) () = if d = ahead c s.rev then 1 else 0 := by
  rw [tallyAt_apply]
  exact if_congr ⟨fun h => (ahead_iff d c s).mp (cell_inj h.1).1.symm, fun h => ⟨by rw [(ahead_iff d c s).mpr h], rfl⟩⟩ rfl rfl
theorem owe_bar_rcv (d c : Dev nD) (s r : Fin 3) : (oweBar d s) (rcvCell c r) () = 0 := by
  rw [tallyAt_apply]; exact if_neg fun h => by cases (cell_inj h.1).2
theorem owe_rcv_bar (d c : Dev nD) (s : Fin 3) : (oweRcv d s) (barCell c) () = 0 := by
  rw [tallyAt_apply]; exact if_neg fun h => by cases (cell_inj h.1).2
theorem owe_rcv_rcv (d c : Dev nD) (s r : Fin 3) : (oweRcv d s) (rcvCell c r) () = if d = ahead c s.rev ∧ s = r then blkN else 0 := by
  rw [tallyAt_apply]
  exact if_congr ⟨fun h => ⟨(ahead_iff d c s).mp (cell_inj h.1).1.symm, (congrArg Prod.snd (Option.some.inj (cell_inj h.1).2)).symm⟩,
    fun h => ⟨by rw [(ahead_iff d c s).mpr h.1, h.2], rfl⟩⟩ rfl rfl

theorem O₀_at (d : Dev nD) (g : GSem nD τ sig) : O₀ d g () = (oweRcv d 2) g () + (oweRcv d 1) g () + (oweRcv d 0) g ()
    + (oweBar d 2) g () + (oweBar d 1) g () + (oweBar d 0) g () := rfl

theorem O₀_bar (d c : Dev nD) : O₀ d (barCell c) () = (if d = ahead c 0 then 1 else 0) + (if d = ahead c 1 then 1 else 0) + (if d = ahead c 2 then 1 else 0) := by
  rw [O₀_at, owe_rcv_bar, owe_rcv_bar, owe_rcv_bar, owe_bar_bar, owe_bar_bar, owe_bar_bar, Nat.add_zero, Nat.zero_add]
  rfl
theorem O₀_rcv (d c : Dev nD) (r : Fin 3) : O₀ d (rcvCell c r) () = if d = ahead c r.rev then blkN else 0 := by
  rw [O₀_at, owe_bar_rcv, owe_bar_rcv, owe_bar_rcv, owe_rcv_rcv, owe_rcv_rcv, owe_rcv_rcv, Nat.add_zero]
  fin_cases r
  · rw [if_neg fun h => absurd h.2 (by decide), if_neg fun h => absurd h.2 (by decide), Nat.zero_add]
    exact if_congr ⟨fun h => h.1, fun h => ⟨h, rfl⟩⟩ rfl rfl
  · rw [if_neg fun h => absurd h.2 (by decide), Nat.zero_add]
    refine (congrArg _ (if_neg fun h => absurd h.2 (by decide))).trans ?_
    exact if_congr ⟨fun h => h.1, fun h => ⟨h, rfl⟩⟩ rfl rfl
  · refine (congrArg₂ (· + ·) (congrArg _ (if_neg fun h => absurd h.2 (by decide))) (if_neg fun h => absurd h.2 (by decide))).trans ?_
    exact if_congr ⟨fun h => h.1, fun h => ⟨h, rfl⟩⟩ rfl rfl

theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib, Finset.sum_add_distrib,
    Finset.sum_ite_eq' Finset.univ (ahead c 0) fun _ => 1, Finset.sum_ite_eq' Finset.univ (ahead c 1) fun _ => 1, Finset.sum_ite_eq' Finset.univ (ahead c 2) fun _ => 1,
    if_pos (Finset.mem_univ _), if_pos (Finset.mem_univ _), if_pos (Finset.mem_univ _)]

theorem credit_rcv (c : Dev nD) (r : Fin 3) :
    tallyOn (rcvCell c r) (launchCredit (Pipeline.owing O₀) 0 (rcvCell c r)) = (tallyAt (rcvCell c r) () blkN : CellTallies nD τ sig Unit) := by
  unfold tallyAt; refine congrArg _ (Finsupp.ext fun u => ?_); cases u
  rw [Pipeline.launchCredit_owing, Finsupp.single_eq_same, Finset.sum_congr rfl fun d _ => O₀_rcv d c r,
    Finset.sum_ite_eq' Finset.univ (ahead c r.rev) fun _ => blkN, if_pos (Finset.mem_univ _)]

omit [FloatOps F] in
theorem credits (c : Dev nD) : (Pipeline.launchCred O₀ c : sProp 𝕄) ⊢ due c := by
  unfold Pipeline.launchCred due
  refine (BI.bigSep_subset (t := ({.reg barS, .dma (rcvS 0), .dma (rcvS 1), .dma (rcvS 2)} : Finset (SemLoc sig))) (Finset.subset_univ _)).trans ?_
  rw [bigSep_eq_bigSepL_of_eq [SemLoc.reg barS, .dma (rcvS 0), .dma (rcvS 1), .dma (rcvS 2)] (by decide) (by decide),
    bigSepL_cons_cons, bigSepL_cons_cons, bigSepL_cons_cons, bigSepL_singleton, three, ← credit_bar, ← credit_rcv, ← credit_rcv, ← credit_rcv]
  exact Entails.refl _

/-! ## The run -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ opened m ρ c)
      ⊢ |={Set.univ}=> iprop(start m ρ c ∗ emp) := by
  rw [Pipeline.unscopedRestP_none, unscopedRest0_eq]
  unfold opened
  iintro ⟨⟨Hw, Ho⟩, Hlev, Hcr, -, ⟨HK, Hp, Hs, Hl⟩⟩
  ihave Hc := (credits (F := F) c) $$ Hcr
  imodintro
  unfold start weights
  isplitl
  · isplitl [HK]; · iexact HK
    isplitl [Hlev]; · iexact Hlev
    isplitl [Hp]; · iexact Hp
    isplitl [Hs]; · iexact Hs
    isplitl [Hc]; · iexact Hc
    isplitl [Hl]; · iexact Hl
    isplitl [Hw]; · iexact Hw
    iexists _; iexact Ho
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before scratch
  iintro ⟨Hs, -, H⟩
  isplitl [Hs]; · iexact Hs
  iexact H

/-- What a device shows of its final memory. -/
def shows (c : Dev nD) : sProp 𝕄 := iprop(unscopedSems0 c ∗ weights m c ∗ result m ρ c)

theorem leave (c : Dev nD) :
    (dats m ρ 0 c).Φ (Fin.last cfg0.N) ⊢ iprop(shows m ρ c ∗ Pipeline.ownSems0 osem c ∗ Pipeline.scopedRest cfg0.spec c) := by
  rw [show (dats m ρ 0 c).Φ (Fin.last cfg0.N) = after m ρ c from rfl, scopedRest0_eq]
  unfold after shows scratch
  iintro ⟨Ha, Hl, Hw, Hr, Hs⟩
  ihave H := (sems_out (F := F) c) $$ [Ha Hl]
  · isplitl [Ha] <;> iassumption
  icases H with ⟨Ho, Hu⟩
  isplitl [Hu Hw Hr]
  · isplitl [Hu]; · iexact Hu
    isplitl [Hw] <;> iassumption
  isplitl [Ho]; · iexact Ho
  iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- Device `c`'s memory at the end. -/
def Ends (c : Dev nD) (s : MemSt nD τ sig (Elt F)) : Prop :=
  s.mem ((c : Thread nD τ).loc main_arg1) = m ((c : Thread nD τ).loc main_arg1)
    ∧ ∀ h, (oH h).view.read (Elt F) (s.mem ((c : Thread nD τ).loc main_v1)) = half m ρ c h

theorem read_end (c : Dev nD) (s' : Phys nD τ sig (Elt F)) :
    iprop(shows m ρ c ∗ emp ∗ SI s') ⊢ |={Set.univ}=> iprop(⌜(∀ sm : SemLoc sig, sm.isScoped .tc = false → s'.mem.sem ((c.tc : Thread nD τ), sm) = 0)
      ∧ Ends m ρ c s'.mem⌝ ∗ SI s') := by
  unfold shows weights result
  iintro ⟨⟨Hu, Hw, ⟨%g, %hg, Hr⟩⟩, -, HSI⟩
  ihave %h1 := (SI_pointsTo_agree (st := s') (ℓ := (c : Thread nD τ).loc main_arg1) (I := Finset.univ) (q := fullShare) (f := m ((c : Thread nD τ).loc main_arg1))) $$ [HSI Hw]
  · isplitl [HSI] <;> iassumption
  ihave %h2 := (SI_pointsTo_agree (st := s') (ℓ := (c : Thread nD τ).loc main_v1) (I := Finset.univ) (q := fullShare) (f := g)) $$ [HSI Hr]
  · isplitl [HSI] <;> iassumption
  imod (Pipeline.unscopedSems0_read (X := unscopedSems0 c) (c := c) fupd_intro s') $$ [Hu HSI] with ⟨%h3, HSI⟩
  · isplitl [Hu] <;> iassumption
  imodintro
  isplitr; swap; · iexact HSI
  ipureintro
  have e1 : s'.mem.mem ((c : Thread nD τ).loc main_arg1) = m ((c : Thread nD τ).loc main_arg1) := funext fun i => h1 i (Finset.mem_univ i)
  have e2 : s'.mem.mem ((c : Thread nD τ).loc main_v1) = g := funext fun i => h2 i (Finset.mem_univ i)
  exact ⟨h3, e1, fun h => by rw [e2]; exact hg h⟩

/-- Every weakly fair run ends, with each device's arguments as they were, its output's halves as computed, and every
    semaphore at zero. -/
def Done (r : PUnit × MemSt nD τ sig (Elt F)) : Prop :=
  (∀ c : Dev nD, r.2.mem ((c : Thread nD τ).loc main_arg0) = m ((c : Thread nD τ).loc main_arg0) ∧ Ends m ρ c r.2) ∧ r.2.sem = fun _ => 0

set_option maxRecDepth 8000 in
theorem run_main : θ_run defs (onTc (τ := τ) (main (F := F))) (s₀ m ρ) (Done m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := dealt m ρ) (G' := opened m ρ) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (mint m ρ) $$ [HX] with HG
      · unfold ER; iexact HX
      imodintro
      isplitl [HP] <;> iassumption)
    (hglob := open_all m ρ)
    (hA := fun _ _ => rfl) (hpf := fun _ k => k.elim0)
    (X := start m ρ) (Y := shows m ρ) (Z := fun _ => iprop(emp))
    (hX := start_intro m ρ) (hin := enter m ρ) (hout := leave m ρ)
    (QY := fun c s => (∀ sm : SemLoc sig, sm.isScoped .tc = false → s.sem ((c.tc : Thread nD τ), sm) = 0) ∧ Ends m ρ c s)
    (hY := fun c s' => read_end m ρ c s')
    (hQ := fun _ h hs => ⟨fun c => ⟨((h c).1 (0 : Fin 1)).trans ((dats (F := F) m ρ 0 c).arrAt_in (0 : Fin 1) rfl _), (h c).2.2.2⟩,
      sem_eq_zero hs fun c => (h c).2.2.1⟩)

end Cert.Exchange

end
-- ==== Proof.Value.lean ====
/-
# What the devices compute

Over the extended reals a device's output tile is its 256 rows of the whole product. Each of the four products it adds
takes one device's columns of `x` and the same device's rows of the weights: together they are the sum over all 1024
contracted positions, in another order.
-/
module

public import proofs.«01_k».proof.Proof.Run
public import Idealize.ShloMosaic.Lib.ValueIdx
public import Idealize.ShloMosaic.Lib.MatmulPlain
public import Idealize.ShloMosaic.Lib.Layout

@[expose] public section

noncomputable section

namespace Cert.Exchange

open Cert.KernelIdeal Cert.KernelIdeal.Gen
open Idealize.ShloMosaic Idealize.ShloMosaic.ValueIdx
open Idealize.ShloMosaic.TcCoe
open Idealize.SL.Sem
open scoped BigOperators

/-! ## Positions -/

/-- Position `t` of the `d`-th stretch of 256. -/
def pos (d : Fin 4) (t : Fin 256) : Fin 1024 := ⟨256 * d.val + t.val, by have := d.isLt; have := t.isLt; omega⟩
/-- Column `j` of half `h`. -/
def col (h : Fin 2) (j : Fin 512) : Fin 1024 := ⟨512 * h.val + j.val, by have := h.isLt; have := j.isLt; omega⟩

/-- Summing over the four stretches one by one is summing over all positions. -/
theorem sum_pos (f : Fin 1024 → EReal) : ∑ d : Fin 4, ∑ t : Fin 256, f (pos d t) = ∑ p, f p := by
  rw [← Equiv.sum_comp (finProdFinEquiv (m := 4) (n := 256)) f, Fintype.sum_prod_type]
  refine Finset.sum_congr rfl fun d _ => Finset.sum_congr rfl fun t _ => congrArg f (Fin.ext ?_)
  show 256 * d.val + t.val = t.val + 256 * d.val
  omega

/-- The order in which a device takes the stretches does not matter. -/
theorem sum_wFrom (c : Dev nD) (f : Fin 4 → EReal) :
    f (wFrom c 0) + f (wFrom c 1) + f (wFrom c 2) + f (wFrom c 3) = ∑ d, f d := by
  rw [← Fin.sum_univ_four (fun k => f (wFrom c k))]
  exact (wFrom_bij c).sum_comp f

/-- Every column of the tile lies in one of the halves. -/
theorem exists_col (j : Fin 1024) : ∃ h k, j = col h k := by
  have hj := j.isLt
  by_cases h : j.val < 512
  · exact ⟨0, ⟨j.val, h⟩, Fin.ext (by show j.val = 512 * 0 + j.val; omega)⟩
  · exact ⟨1, ⟨j.val - 512, by omega⟩, Fin.ext (by show j.val = 512 * 1 + (j.val - 512); omega)⟩

/-! ## The pieces read -/

section Reads
variable {F : FTy → Type} [FloatOps F]
variable (m : (ℓ : Loc nD τ sig) → Buf (Elt F) ℓ) (ρ : Dev nD → PrngReg)

/-- Two indices of an array of rank two are equal when their coordinates are. -/
theorem idx_ext {n0 n1 : Nat} {i j : (⟨2, ![n0, n1]⟩ : Shape).Idx} (h0 : (i 0).val = (j 0).val) (h1 : (i 1).val = (j 1).val) : i = j := by
  rw [eq_ix2 i, eq_ix2 j, Fin.ext h0, Fin.ext h1]

omit [FloatOps F] in
theorem xstg_eq (c : Dev nD) : xstg m ρ c = m ((c : Thread nD τ).loc main_arg0) := by
  unfold xstg
  exact Memref.read_access_unit_zero (Elt F) main_arg0 (funext fun a => by fin_cases a <;> decide) _ _

omit [FloatOps F] in
theorem sent_apply (c : Dev nD) (s : Fin 3) (i t : Fin 256) :
    sent m ρ c s (ix2 i t) = m ((c : Thread nD τ).loc main_arg0) (ix2 (pos (ahead c s) i) t) := by
  have hoff := xOff_eq c s
  have h0 : xOff c s 0 = 256 * (ahead c s).val := by rw [hoff]; rfl
  have h1 : xOff c s 1 = 0 := by rw [hoff]; rfl
  unfold sent
  rw [xstg_eq]
  refine congrArg (m ((c : Thread nD τ).loc main_arg0)) (idx_ext ?_ ?_)
  · show xOff c s 0 + 1 * i.val = 256 * (ahead c s).val + i.val
    rw [h0, Nat.one_mul]
  · show xOff c s 1 + 1 * t.val = t.val
    rw [h1, Nat.one_mul, Nat.zero_add]

omit [FloatOps F] in
theorem got_apply (c : Dev nD) (s : Fin 3) (i t : Fin 256) :
    got m ρ c s (ix2 i t) = m ((ahead c s.rev : Thread nD τ).loc main_arg0) (ix2 (pos c i) t) := by
  unfold got
  rw [sent_apply, ahead_rev']

omit [FloatOps F] in
theorem own_apply (c : Dev nD) (i t : Fin 256) :
    own m ρ c (ix2 i t) = m ((c : Thread nD τ).loc main_arg0) (ix2 (pos c i) t) := by
  have hoff : k0_off5 c = ![256 * (round c 0).val, 0] := xBeg_eq c 0
  have h0 : k0_off5 c 0 = 256 * c.val := by
    rw [hoff, show round c 0 = c by revert c; decide]; rfl
  have h1 : k0_off5 c 1 = 0 := by rw [hoff]; rfl
  unfold own
  rw [xstg_eq]
  refine congrArg (m ((c : Thread nD τ).loc main_arg0)) (idx_ext ?_ ?_)
  · show k0_off5 c 0 + 1 * i.val = 256 * c.val + i.val
    rw [h0, Nat.one_mul]
  · show k0_off5 c 1 + 1 * t.val = t.val
    rw [h1, Nat.one_mul, Nat.zero_add]

omit [FloatOps F] in
theorem wgot_apply (c : Dev nD) (k : Fin 4) (t : Fin 256) (j : Fin 1024) :
    wgot m c k (ix2 t j) = m ((c : Thread nD τ).loc main_arg1) (ix2 (pos (wFrom c k) t) j) := by
  have hoff := wOff_eq c k
  have h0 : wOff c k 0 = 256 * (wFrom c k).val := by rw [hoff]; rfl
  have h1 : wOff c k 1 = 0 := by rw [hoff]; rfl
  unfold wgot
  refine congrArg (m ((c : Thread nD τ).loc main_arg1)) (idx_ext ?_ ?_)
  · show wOff c k 0 + 1 * t.val = 256 * (wFrom c k).val + t.val
    rw [h0, Nat.one_mul]
  · show wOff c k 1 + 1 * j.val = j.val
    rw [h1, Nat.one_mul, Nat.zero_add]

omit [FloatOps F] in
theorem oH_read (h : Fin 2) (f : S256x1024.Idx → Elt F .bf16) (i : Fin 256) (j : Fin 512) :
    (oH h).view.read (Elt F) f (ix2 i j) = f (ix2 i (col h j)) := by
  refine congrArg f (idx_ext ?_ ?_)
  · show 0 + 1 * i.val = i.val
    omega
  · show 512 * h.val + 1 * j.val = 512 * h.val + j.val
    omega

end Reads

/-! ## The products -/

/-- Entry (i, j) of the product of two blocks. -/
def prod (A : S256x256.Idx → EReal) (B : S256x1024.Idx → EReal) (i : Fin 256) (j : Fin 1024) : EReal :=
  ∑ t : Fin 256, A (ix2 i t) * B (ix2 t j)

theorem zero_word : Ideal.ofBits .f32 0x00000000#32 = 0 := Ideal.ofBits_zero_f32

theorem wide_apply (A : FVec Ideal S256x256 .bf16) (B : FVec Ideal S256x1024 .bf16) (i : Fin 256) (j : Fin 1024) :
    matmul dot_S256x256_S256x1024_S256x1024_1_0_0_1_n_n none A B (constant S256x1024 .f32 0x00000000#32) (ix2 i j) = prod A B i j := by
  refine (Ideal.matmul_plain_apply (M := 256) (K := 256) (N := 1024) none A B _ i j).trans ?_
  rw [constant_apply, zero_word, zero_add]; rfl

/-- A column half cut out of a tile. -/
theorem slice_apply {α : Type} (B : S256x1024.Idx → α) (h : Fin 2) {off : Fin 2 → Nat}
    (ho : off = ![0, 512 * h.val]) (hs : S256x1024.Slices off S256x512) (i : Fin 256) (j : Fin 512) :
    extractStridedSlice S256x512 off B hs (ix2 i j) = B (ix2 i (col h j)) := by
  subst ho
  refine extractStridedSlice_apply _ B hs (ix2 i j) (ix2 i (col h j)) fun a => ?_
  match a with
  | ⟨0, _⟩ => exact (Nat.zero_add _).symm
  | ⟨1, _⟩ => rfl

theorem narrow_apply (A : FVec Ideal S256x256 .bf16) (B : FVec Ideal S256x1024 .bf16) (h : Fin 2) {off : Fin 2 → Nat}
    (ho : off = ![0, 512 * h.val]) (hs : S256x1024.Slices off S256x512) (i : Fin 256) (j : Fin 512) :
    matmul dot_S256x256_S256x512_S256x512_1_0_0_1_n_n none A (extractStridedSlice S256x512 off B hs) (constant S256x512 .f32 0x00000000#32) (ix2 i j)
      = prod A B i (col h j) := by
  refine (Ideal.matmul_plain_apply (M := 256) (K := 256) (N := 512) none A _ _ i j).trans ?_
  rw [constant_apply, zero_word, zero_add]
  refine Finset.sum_congr rfl fun t _ => congrArg (A (ix2 i t) * ·) ?_
  exact slice_apply B h ho hs t j

theorem acc1_apply (m : (ℓ : Loc nD τ sig) → Buf (Elt Ideal) ℓ) (ρ : Dev nD → PrngReg) (c : Dev nD) (i : Fin 256) (j : Fin 1024) :
    acc1 m ρ c (ix2 i j) = prod (own m ρ c) (wgot m c 0) i j := by
  unfold acc1 k0_pay1 wLift
  rw [shapeCast_self, shapeCast_shapeCast]
  exact wide_apply _ _ i j

section Halves
variable (m : (ℓ : Loc nD τ sig) → Buf (Elt Ideal) ℓ) (ρ : Dev nD → PrngReg)

theorem acc2_apply (c : Dev nD) (i : Fin 256) (j : Fin 1024) :
    acc2 m ρ c (ix2 i j) = prod (own m ρ c) (wgot m c 0) i j + prod (got m ρ c 0) (wgot m c 1) i j := by
  unfold acc2 k0_pay2 wLift cLift
  rw [shapeCast_shapeCast, shapeCast_shapeCast]
  refine (addf_apply _ _ _).trans ?_
  rw [acc1_apply]
  exact congrArg (_ + ·) (wide_apply _ _ i j)

theorem acc3_apply (c : Dev nD) (i : Fin 256) (j : Fin 1024) :
    acc3 m ρ c (ix2 i j) = prod (own m ρ c) (wgot m c 0) i j + prod (got m ρ c 0) (wgot m c 1) i j + prod (got m ρ c 2) (wgot m c 2) i j := by
  unfold acc3 k0_pay3 wLift cLift
  rw [shapeCast_shapeCast, shapeCast_shapeCast]
  refine (addf_apply _ _ _).trans ?_
  rw [acc2_apply]
  exact congrArg (_ + ·) (wide_apply _ _ i j)

/-- One entry of a half, as its four products. -/
theorem half_apply (c : Dev nD) (h : Fin 2) (i : Fin 256) (j : Fin 512) :
    half m ρ c h (ix2 i j) = prod (own m ρ c) (wgot m c 0) i (col h j) + prod (got m ρ c 0) (wgot m c 1) i (col h j)
      + prod (got m ρ c 2) (wgot m c 2) i (col h j) + prod (got m ρ c 1) (wgot m c 3) i (col h j) := by
  rw [← acc3_apply]
  match h with
  | ⟨0, _⟩ =>
    show k0_pay5 (k0_pay4 (acc2 m ρ c) (cLift (got m ρ c 2)) (wLift (wgot m c 2))) (cLift (got m ρ c 1)) (wLift (wgot m c 3)) (ix2 i j) = _
    unfold k0_pay5 k0_pay4
    rw [shapeCast_self]
    refine (addf_apply _ _ _).trans ?_
    refine congrArg₂ (· + ·) (slice_apply _ 0 rfl _ i j) ?_
    unfold wLift cLift
    rw [shapeCast_shapeCast, shapeCast_shapeCast]
    exact narrow_apply _ _ 0 rfl _ i j
  | ⟨1, _⟩ =>
    show k0_pay6 (acc3 m ρ c) (cLift (got m ρ c 1)) (wLift (wgot m c 3)) (ix2 i j) = _
    unfold k0_pay6
    rw [shapeCast_self]
    refine (addf_apply _ _ _).trans ?_
    refine congrArg₂ (· + ·) (slice_apply _ 1 rfl _ i j) ?_
    unfold wLift cLift
    rw [shapeCast_shapeCast, shapeCast_shapeCast]
    exact narrow_apply _ _ 1 rfl _ i j

/-! ## A device's tile is its block of the whole product -/

/-- Entry (p, j) of the product of the whole arrays. -/
def whole (x w : S1024x1024.Idx → EReal) (p j : Fin 1024) : EReal := ∑ t : Fin 1024, x (ix2 p t) * w (ix2 t j)

variable (x w : S1024x1024.Idx → EReal)

/-- The part of an entry of the whole product that runs over the `d`-th stretch. -/
def part (p j : Fin 1024) (d : Fin 4) : EReal := ∑ t : Fin 256, x (ix2 p (pos d t)) * w (ix2 (pos d t) j)

theorem block_col (c : Fin 4) (p : Fin 1024) (t : Fin 256) :
    Layout.block ⟨2, ![1024, 256]⟩ ⟨2, ![1024, 1024]⟩ 1 4 c x (by decide) (ix2 p t) = x (ix2 p (pos c t)) := by
  refine congrArg x (idx_ext rfl ?_)
  show c.val * 256 + t.val = 256 * c.val + t.val
  rw [Nat.mul_comm]

variable (hx : ∀ c : Dev nD, m ((c : Thread nD τ).loc main_arg0) = Layout.block ⟨2, ![1024, 256]⟩ ⟨2, ![1024, 1024]⟩ 1 4 c x)
  (hw : ∀ c : Dev nD, m ((c : Thread nD τ).loc main_arg1) = w)
include hx hw

theorem own_part (c : Dev nD) (i : Fin 256) (j : Fin 1024) : prod (own m ρ c) (wgot m c 0) i j = part x w (pos c i) j (wFrom c 0) := by
  refine Finset.sum_congr rfl fun t _ => ?_
  rw [own_apply, wgot_apply, hx, hw]
  exact congrArg (· * _) (block_col x _ _ _)

theorem got_part (c : Dev nD) (s : Fin 3) (k : Fin 4) (hk : wFrom c k = ahead c s.rev) (i : Fin 256) (j : Fin 1024) :
    prod (got m ρ c s) (wgot m c k) i j = part x w (pos c i) j (wFrom c k) := by
  refine Finset.sum_congr rfl fun t _ => ?_
  rw [got_apply, wgot_apply, hx, hw, hk]
  exact congrArg (· * _) (block_col x _ _ _)

theorem half_whole (c : Dev nD) (h : Fin 2) (i : Fin 256) (j : Fin 512) :
    half m ρ c h (ix2 i j) = whole x w (pos c i) (col h j) := by
  rw [half_apply, own_part m ρ x w hx hw, got_part m ρ x w hx hw c 0 1 rfl, got_part m ρ x w hx hw c 2 2 rfl, got_part m ρ x w hx hw c 1 3 rfl,
    sum_wFrom c (part x w (pos c i) (col h j))]
  exact sum_pos fun p => x (ix2 (pos c i) p) * w (ix2 p (col h j))

/-- A final memory's output tile, when its halves are those computed, is the device's block of rows of `v`, an array
    holding the whole product. -/
theorem tile_block (v : S1024x1024.Idx → EReal) (hv : ∀ p j, v (ix2 p j) = whole x w p j) (c : Dev nD) (f : S256x1024.Idx → EReal)
    (hf : ∀ h, (oH h).view.read (Elt Ideal) f = half m ρ c h) :
    f = Layout.block ⟨2, ![256, 1024]⟩ ⟨2, ![1024, 1024]⟩ 0 4 c v := by
  funext i
  obtain ⟨r, j, rfl⟩ : ∃ (r : Fin 256) (j : Fin 1024), i = ix2 r j := ⟨i 0, i 1, eq_ix2 i⟩
  obtain ⟨h, k, rfl⟩ := exists_col j
  have e := congrFun (hf h) (ix2 r k)
  rw [oH_read, half_whole m ρ x w hx hw, ← hv] at e
  refine e.trans (congrArg v (idx_ext ?_ rfl))
  show 256 * c.val + r.val = c.val * 256 + r.val
  rw [Nat.mul_comm]

end Halves

end Cert.Exchange

end
-- ==== Proof.lean ====
/-
# The certificate

The three frames and the equality of kernel and reference over the extended reals, from the kernel's run (`Run`) and what
it computes (`Value`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.StackMember
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The two printings of the kernel have the same text, so the same body at its one label. -/
theorem bodies_eq : Cert.Kernel.defs₀ (F := Bits) = Cert.KernelIdeal.defs₀ (F := Bits) := by
  unfold Cert.Kernel.defs₀ Cert.KernelIdeal.defs₀
  refine congrArg _ ?_
  funext l a
  match l, a with
  | 0, (t, s) => rfl

theorem tables_eq : Cert.Kernel.defs (F := Bits) = Cert.KernelIdeal.defs (F := Bits) := congrArg (Pipeline.defs _) bodies_eq

/-- The kernel as printed: its run at the machine's floats. -/
theorem frame_kernel : Cert.quiescent_Kernel := by
  intro m ρ _
  rw [tables_eq]
  exact (θ_run Cert.KernelIdeal.defs _ _).mono (fun _ h => ⟨fun c => ⟨(h.1 c).1, (h.1 c).2.1⟩, h.2⟩) (Cert.Exchange.run_main (F := Bits) m ρ)

/-- The kernel over the extended reals. -/
theorem frame_ideal : Cert.quiescent_KernelIdeal := fun m ρ _ =>
  (θ_run Cert.KernelIdeal.defs _ _).mono (fun _ h => ⟨fun c => ⟨(h.1 c).1, (h.1 c).2.1⟩, h.2⟩) (Cert.Exchange.run_main (F := Ideal) m ρ)

/-- The reference declares no semaphore, so none is off zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's output is its block of rows of the reference's. -/
theorem same_function : Cert.algebraic_KernelIdeal_ReferenceIdeal := by
  intro m ρ m' ρ' _ hm
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨?_, (h.1 c).1, (h.1 c).2.1⟩) (Cert.Exchange.run_main (F := Ideal) m ρ)
  refine Cert.Exchange.tile_block m ρ _ _ (fun c => (hm c).1) (fun c => (hm c).2) _ (fun p j => ?_) c _ (h.1 c).2.2
  exact StackMember.dotGeneral_plain_apply (m := 1024) (k := 1024) (n := 1024) (φ₁ := .f32) (φ₂ := .f32) none _ _ p j

theorem claim : Cert.Claim := ⟨Cert.Kernel.Gen.facts, Cert.KernelIdeal.Gen.facts, Cert.ReferenceIdeal.Gen.facts,
  frame_kernel, frame_ideal, frame_reference, trivial, same_function⟩

end Cert.Proof

end
